-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_batches_finite_features [hPre_equal_batches_finite_features : Cert.Pre_equal_batches_finite_features.Facts] (m : (ℓ : Loc Cert.KernelIdeal.nD Cert.KernelIdeal.τ Cert.KernelIdeal.sig) → Buf (Elt Ideal) ℓ) : Prop :=
  ∀ c : Dev Cert.KernelIdeal.nD,
    (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_equal_batches_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_batches_finite_features [hPre_equal_batches_finite_features : Cert.Pre_equal_batches_finite_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_equal_batches_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_equal_batches_finite_features [hKernelIdeal : Cert.KernelIdeal.Facts] [hPre_equal_batches_finite_features : Cert.Pre_equal_batches_finite_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_batches_finite_features m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_equal_batches_finite_features [hReferenceIdeal : Cert.ReferenceIdeal.Facts] [hPre_equal_batches_finite_features : Cert.Pre_equal_batches_finite_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_batches_finite_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_equal_batches_finite_features [hKernelIdeal : Cert.KernelIdeal.Facts] [hReferenceIdeal : Cert.ReferenceIdeal.Facts] [hPre_equal_batches_finite_features : Cert.Pre_equal_batches_finite_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_batches_finite_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v306)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v306) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v342) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_equal_batches_finite_features : Cert.Pre_equal_batches_finite_features.Facts),
    quiescent_Kernel (hKernel := hKernel)
    ∧ quiescent_KernelIdeal (hKernelIdeal := hKernelIdeal)
    ∧ quiescent_KernelIdeal_pre_equal_batches_finite_features (hKernelIdeal := hKernelIdeal) (hPre_equal_batches_finite_features := hPre_equal_batches_finite_features)
    ∧ quiescent_ReferenceIdeal (hReferenceIdeal := hReferenceIdeal)
    ∧ quiescent_ReferenceIdeal_pre_equal_batches_finite_features (hReferenceIdeal := hReferenceIdeal) (hPre_equal_batches_finite_features := hPre_equal_batches_finite_features)
    ∧ preserves_Kernel_KernelIdeal
    ∧ algebraic_KernelIdeal_ReferenceIdeal_pre_equal_batches_finite_features (hKernelIdeal := hKernelIdeal) (hReferenceIdeal := hReferenceIdeal) (hPre_equal_batches_finite_features := hPre_equal_batches_finite_features)
-- ==== Pre_equal_batches_finite_features.lean ====
abbrev S100000x1 : Shape := ⟨2, ![100000, 1]⟩
abbrev S2x1600000 : Shape := ⟨2, ![2, 1600000]⟩
abbrev S1600000x2 : Shape := ⟨2, ![1600000, 2]⟩
abbrev S2x800000 : Shape := ⟨2, ![2, 800000]⟩
abbrev S800000x2 : Shape := ⟨2, ![800000, 2]⟩
abbrev S26 : Shape := ⟨1, ![26]⟩
abbrev S25x1x32 : Shape := ⟨3, ![25, 1, 32]⟩
abbrev S1x32 : Shape := ⟨2, ![1, 32]⟩
abbrev S32 : Shape := ⟨1, ![32]⟩
abbrev S25x32x64 : Shape := ⟨3, ![25, 32, 64]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S26 : S_.BroadcastsInDim S26 (![] : Fin 0 → Fin S26.rank)
  bcast_S_S100000x1 : S_.BroadcastsInDim S100000x1 (![] : Fin 0 → Fin S100000x1.rank)
  bcast_S_S1600000x2 : S_.BroadcastsInDim S1600000x2 (![] : Fin 0 → Fin S1600000x2.rank)
  bcast_S_S800000x2 : S_.BroadcastsInDim S800000x2 (![] : Fin 0 → Fin S800000x2.rank)
  bcast_S_S25x1x32 : S_.BroadcastsInDim S25x1x32 (![] : Fin 0 → Fin S25x1x32.rank)
  bcast_S_S1x32 : S_.BroadcastsInDim S1x32 (![] : Fin 0 → Fin S1x32.rank)
  bcast_S_S32 : S_.BroadcastsInDim S32 (![] : Fin 0 → Fin S32.rank)
  bcast_S_S25x32x64 : S_.BroadcastsInDim S25x32x64 (![] : Fin 0 → Fin S25x32x64.rank)
  bcast_S_S32x64 : S_.BroadcastsInDim S32x64 (![] : Fin 0 → Fin S32x64.rank)
  bcast_S_S64 : S_.BroadcastsInDim S64 (![] : Fin 0 → Fin S64.rank)

variable [Facts]

def fn_part1 {F : FTy → Type} [FloatOps F] (main_arg8 : FVec F S32 .f32) (main_arg9 : FVec F S25x32x64 .f32) (main_arg10 : FVec F S32x64 .f32) (main_arg11 : FVec F S64 .f32) (main_v3 : IVec S26 1) (main_v6 : IVec S100000x1 1) (main_v9 : IVec S1600000x2 1) (main_v12 : IVec S800000x2 1) (main_v15 : IVec S25x1x32 1) (main_v16 : FVec F S1x32 .f32) (main_v17 : FVec F S1x32 .f32) : IVec S26 1 × IVec S100000x1 1 × IVec S1600000x2 1 × IVec S800000x2 1 × IVec S25x1x32 1 × IVec S1x32 1 × IVec S32 1 × IVec S25x32x64 1 × IVec S32x64 1 × IVec S64 1 :=
  let main_v18 : IVec S1x32 1 := cmpf .olt main_v16 main_v17
  let main_v19 : FVec F S32 .f32 := Host.absf main_arg8
  let main_cst_4 : FVec F S_ .f32 := constant S_ .f32 0x7F800000#32
  let main_v20 : FVec F S32 .f32 := broadcastInDim S32 ![] bcast_S_S32 main_cst_4
  let main_v21 : IVec S32 1 := cmpf .olt main_v19 main_v20
  let main_v22 : FVec F S25x32x64 .f32 := Host.absf main_arg9
  let main_cst_5 : FVec F S_ .f32 := constant S_ .f32 0x7F800000#32
  let main_v23 : FVec F S25x32x64 .f32 := broadcastInDim S25x32x64 ![] bcast_S_S25x32x64 main_cst_5
  let main_v24 : IVec S25x32x64 1 := cmpf .olt main_v22 main_v23
  let main_v25 : FVec F S32x64 .f32 := Host.absf main_arg10
  let main_cst_6 : FVec F S_ .f32 := constant S_ .f32 0x7F800000#32
  let main_v26 : FVec F S32x64 .f32 := broadcastInDim S32x64 ![] bcast_S_S32x64 main_cst_6
  let main_v27 : IVec S32x64 1 := cmpf .olt main_v25 main_v26
  let main_v28 : FVec F S64 .f32 := Host.absf main_arg11
  let main_cst_7 : FVec F S_ .f32 := constant S_ .f32 0x7F800000#32
  let main_v29 : FVec F S64 .f32 := broadcastInDim S64 ![] bcast_S_S64 main_cst_7
  let main_v30 : IVec S64 1 := cmpf .olt main_v28 main_v29
  (main_v3, main_v6, main_v9, main_v12, main_v15, main_v18, main_v21, main_v24, main_v27, main_v30)

def fn {F : FTy → Type} [FloatOps F] (main_arg0 : FVec F S100000x1 .f32) (main_arg1 : IVec S2x1600000 32) (main_arg2 : FVec F S1600000x2 .f32) (main_arg3 : IVec S2x800000 32) (main_arg4 : FVec F S800000x2 .f32) (main_arg5 : IVec S26 32) (main_arg6 : FVec F S25x1x32 .f32) (main_arg7 : FVec F S1x32 .f32) (main_arg8 : FVec F S32 .f32) (main_arg9 : FVec F S25x32x64 .f32) (main_arg10 : FVec F S32x64 .f32) (main_arg11 : FVec F S64 .f32) (main_arg12 : FVec F S64x128 .f32) (main_arg13 : FVec F S128 .f32) (main_arg14 : FVec F S128x10 .f32) (main_arg15 : FVec F S10 .f32) : IVec S26 1 × IVec S100000x1 1 × IVec S1600000x2 1 × IVec S800000x2 1 × IVec S25x1x32 1 × IVec S1x32 1 × IVec S32 1 × IVec S25x32x64 1 × IVec S32x64 1 × IVec S64 1 :=
  let main_v0 : IVec S26 32 := iotaInDim S26 32 0
  let main_c : IVec S_ 32 := constantI S_ 32 1000#32
  let main_v1 : IVec S26 32 := broadcastInDim S26 ![] bcast_S_S26 main_c
  let main_v2 : IVec S26 32 := muli main_v0 main_v1
  let main_v3 : IVec S26 1 := cmpi .eq main_arg5 main_v2
  let main_v4 : FVec F S100000x1 .f32 := Host.absf main_arg0
  let main_cst : FVec F S_ .f32 := constant S_ .f32 0x7F800000#32
  let main_v5 : FVec F S100000x1 .f32 := broadcastInDim S100000x1 ![] bcast_S_S100000x1 main_cst
  let main_v6 : IVec S100000x1 1 := cmpf .olt main_v4 main_v5
  let main_v7 : FVec F S1600000x2 .f32 := Host.absf main_arg2
  let main_cst_0 : FVec F S_ .f32 := constant S_ .f32 0x7F800000#32
  let main_v8 : FVec F S1600000x2 .f32 := broadcastInDim S1600000x2 ![] bcast_S_S1600000x2 main_cst_0
  let main_v9 : IVec S1600000x2 1 := cmpf .olt main_v7 main_v8
  let main_v10 : FVec F S800000x2 .f32 := Host.absf main_arg4
  let main_cst_1 : FVec F S_ .f32 := constant S_ .f32 0x7F800000#32
  let main_v11 : FVec F S800000x2 .f32 := broadcastInDim S800000x2 ![] bcast_S_S800000x2 main_cst_1
  let main_v12 : IVec S800000x2 1 := cmpf .olt main_v10 main_v11
  let main_v13 : FVec F S25x1x32 .f32 := Host.absf main_arg6
  let main_cst_2 : FVec F S_ .f32 := constant S_ .f32 0x7F800000#32
  let main_v14 : FVec F S25x1x32 .f32 := broadcastInDim S25x1x32 ![] bcast_S_S25x1x32 main_cst_2
  let main_v15 : IVec S25x1x32 1 := cmpf .olt main_v13 main_v14
  let main_v16 : FVec F S1x32 .f32 := Host.absf main_arg7
  let main_cst_3 : FVec F S_ .f32 := constant S_ .f32 0x7F800000#32
  let main_v17 : FVec F S1x32 .f32 := broadcastInDim S1x32 ![] bcast_S_S1x32 main_cst_3
  fn_part1 (F := F) main_arg8 main_arg9 main_arg10 main_arg11 main_v3 main_v6 main_v9 main_v12 main_v15 main_v16 main_v17
-- ==== Kernel.lean ====
abbrev S100000x1 : Shape := ⟨2, ![100000, 1]⟩
abbrev S2x1600000 : Shape := ⟨2, ![2, 1600000]⟩
abbrev S1600000x2 : Shape := ⟨2, ![1600000, 2]⟩
abbrev S2x800000 : Shape := ⟨2, ![2, 800000]⟩
abbrev S800000x2 : Shape := ⟨2, ![800000, 2]⟩
abbrev S26 : Shape := ⟨1, ![26]⟩
abbrev S25x1x32 : Shape := ⟨3, ![25, 1, 32]⟩
abbrev S1x32 : Shape := ⟨2, ![1, 32]⟩
abbrev S32 : Shape := ⟨1, ![32]⟩
abbrev S25x32x64 : Shape := ⟨3, ![25, 32, 64]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S25x100000x1 : Shape := ⟨3, ![25, 100000, 1]⟩
abbrev S100000 : Shape := ⟨1, ![100000]⟩
abbrev S100000x32 : Shape := ⟨2, ![100000, 32]⟩
abbrev S50000x2x32 : Shape := ⟨3, ![50000, 2, 32]⟩
abbrev S50000x32 : Shape := ⟨2, ![50000, 32]⟩
abbrev S1x800000 : Shape := ⟨2, ![1, 800000]⟩
abbrev S800000 : Shape := ⟨1, ![800000]⟩
abbrev S800000x1 : Shape := ⟨2, ![800000, 1]⟩
abbrev S800000x32 : Shape := ⟨2, ![800000, 32]⟩
abbrev S25x50000x32 : Shape := ⟨3, ![25, 50000, 32]⟩
abbrev S50000 : Shape := ⟨1, ![50000]⟩
abbrev S50000x64 : Shape := ⟨2, ![50000, 64]⟩
abbrev S50000x1 : Shape := ⟨2, ![50000, 1]⟩
abbrev S1x64 : Shape := ⟨2, ![1, 64]⟩
abbrev S25000x2x64 : Shape := ⟨3, ![25000, 2, 64]⟩
abbrev S25000x64 : Shape := ⟨2, ![25000, 64]⟩
abbrev S1x128 : Shape := ⟨2, ![1, 128]⟩
abbrev S1x10 : Shape := ⟨2, ![1, 10]⟩
abbrev S25x10 : Shape := ⟨2, ![25, 10]⟩
abbrev S25x1000x64 : Shape := ⟨3, ![25, 1000, 64]⟩
abbrev S25x64 : Shape := ⟨2, ![25, 64]⟩
abbrev S25x128 : Shape := ⟨2, ![25, 128]⟩
abbrev S25 : Shape := ⟨1, ![25]⟩
abbrev S25x1 : Shape := ⟨2, ![25, 1]⟩

abbrev nBuf : Space → Nat
  | .hbm => 443
  | .vmem => 6
  | .smem => 0
  | _ => 0

abbrev hbmTy0_0 (i : Nat) : BufTy := match i % 128 with
  | 0 => ⟨S100000x1, .f32⟩
  | 1 => ⟨S2x1600000, .i32⟩
  | 2 => ⟨S1600000x2, .f32⟩
  | 3 => ⟨S2x800000, .i32⟩
  | 4 => ⟨S800000x2, .f32⟩
  | 5 => ⟨S26, .i32⟩
  | 6 => ⟨S25x1x32, .f32⟩
  | 7 => ⟨S1x32, .f32⟩
  | 8 => ⟨S32, .f32⟩
  | 9 => ⟨S25x32x64, .f32⟩
  | 10 => ⟨S32x64, .f32⟩
  | 11 => ⟨S64, .f32⟩
  | 12 => ⟨S64x128, .f32⟩
  | 13 => ⟨S128, .f32⟩
  | 14 => ⟨S128x10, .f32⟩
  | 15 => ⟨S10, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000x2, .f32⟩
  | 22 => ⟨S1600000x2, .f32⟩
  | 23 => ⟨S1600000x2, .f32⟩
  | 24 => ⟨S_, .i32⟩
  | 25 => ⟨S_, .i32⟩
  | 26 => ⟨S_, .f32⟩
  | 27 => ⟨S1600000x2, .f32⟩
  | 28 => ⟨S1600000x2, .f32⟩
  | 29 => ⟨S_, .f32⟩
  | 30 => ⟨S1600000x2, .f32⟩
  | 31 => ⟨S1600000x2, .f32⟩
  | 32 => ⟨S1600000x2, .i32⟩
  | 33 => ⟨S_, .i32⟩
  | 34 => ⟨S1600000x2, .i32⟩
  | 35 => ⟨S1600000x2, .i32⟩
  | 36 => ⟨S_, .i32⟩
  | 37 => ⟨S_, .i32⟩
  | 38 => ⟨S_, .i32⟩
  | 39 => ⟨S1600000x2, .i32⟩
  | 40 => ⟨S1600000x2, .i32⟩
  | 41 => ⟨S_, .i32⟩
  | 42 => ⟨S1600000x2, .i32⟩
  | 43 => ⟨S1600000x2, .i32⟩
  | 44 => ⟨S1600000x2, .f32⟩
  | 45 => ⟨S_, .f32⟩
  | 46 => ⟨S1600000x2, .f32⟩
  | 47 => ⟨S1600000x2, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x1, .f32⟩
  | 57 => ⟨S_, .f32⟩
  | 58 => ⟨S25x100000x1, .f32⟩
  | 59 => ⟨S1600000x1, .i32⟩
  | 60 => ⟨S1600000, .i32⟩
  | 61 => ⟨S1600000x1, .f32⟩
  | 62 => ⟨S1600000, .f32⟩
  | 63 => ⟨S1600000x1, .i32⟩
  | 64 => ⟨S1600000, .i32⟩
  | 65 => ⟨S1600000x1, .f32⟩
  | 66 => ⟨S1600000, .f32⟩
  | 67 => ⟨S1600000x1, .i32⟩
  | 68 => ⟨S1600000, .i32⟩
  | 69 => ⟨S1600000x1, .f32⟩
  | 70 => ⟨S1600000, .f32⟩
  | 71 => ⟨S1600000x1, .i32⟩
  | 72 => ⟨S1600000, .i32⟩
  | 73 => ⟨S1600000x1, .f32⟩
  | 74 => ⟨S1600000, .f32⟩
  | 75 => ⟨S_, .i32⟩
  | 76 => ⟨S1600000, .i32⟩
  | 77 => ⟨S1600000, .i32⟩
  | 78 => ⟨S1600000, .i32⟩
  | 79 => ⟨S1600000, .f32⟩
  | 80 => ⟨S1600000x1, .f32⟩
  | 81 => ⟨S1600000x1, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x1, .i32⟩
  | 98 => ⟨S1600000x2, .i32⟩
  | 99 => ⟨S25x100000x1, .f32⟩
  | 100 => ⟨S_, .i32⟩
  | 101 => ⟨S1600000, .i32⟩
  | 102 => ⟨S1600000, .i32⟩
  | 103 => ⟨S1600000, .i32⟩
  | 104 => ⟨S1600000, .f32⟩
  | 105 => ⟨S1600000x1, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x1, .i32⟩
  | 123 => ⟨S1600000x2, .i32⟩
  | 124 => ⟨S25x100000x1, .f32⟩
  | 125 => ⟨S1600000x1, .i32⟩
  | 126 => ⟨S1600000, .i32⟩
  | 127 => ⟨S1600000x1, .f32⟩
  | _ => ⟨S100000x1, .f32⟩

abbrev hbmTy0_1 (i : Nat) : BufTy := match i % 128 with
  | 0 => ⟨S1600000, .f32⟩
  | 1 => ⟨S1600000x1, .i32⟩
  | 2 => ⟨S1600000, .i32⟩
  | 3 => ⟨S1600000x1, .f32⟩
  | 4 => ⟨S1600000, .f32⟩
  | 5 => ⟨S_, .i32⟩
  | 6 => ⟨S1600000, .i32⟩
  | 7 => ⟨S1600000, .i32⟩
  | 8 => ⟨S1600000, .i32⟩
  | 9 => ⟨S1600000, .f32⟩
  | 10 => ⟨S1600000x1, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x1, .i32⟩
  | 28 => ⟨S1600000x2, .i32⟩
  | 29 => ⟨S25x100000x1, .f32⟩
  | 30 => ⟨S_, .i32⟩
  | 31 => ⟨S1600000, .i32⟩
  | 32 => ⟨S1600000, .i32⟩
  | 33 => ⟨S1600000, .i32⟩
  | 34 => ⟨S1600000, .f32⟩
  | 35 => ⟨S1600000x1, .f32⟩
  | 36 => ⟨S1600000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x1, .i32⟩
  | 53 => ⟨S1600000x2, .i32⟩
  | 54 => ⟨S25x100000x1, .f32⟩
  | 55 => ⟨S_, .f32⟩
  | 56 => ⟨S100000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S_, .f32⟩
  | 66 => ⟨S1600000, .f32⟩
  | 67 => ⟨S100000, .f32⟩
  | 68 => ⟨S_, .f32⟩
  | 69 => ⟨S100000, .f32⟩
  | 70 => ⟨S100000, .f32⟩
  | 71 => ⟨S100000x32, .f32⟩
  | 72 => ⟨S100000x1, .f32⟩
  | 73 => ⟨S100000x32, .f32⟩
  | 74 => ⟨S100000x32, .f32⟩
  | 75 => ⟨S100000x32, .f32⟩
  | 76 => ⟨S100000x32, .f32⟩
  | 77 => ⟨S1x32, .f32⟩
  | 78 => ⟨S100000x32, .f32⟩
  | 79 => ⟨S100000x32, .f32⟩
  | 80 => ⟨S_, .f32⟩
  | 81 => ⟨S100000x32, .f32⟩
  | 82 => ⟨S100000x32, .i1⟩
  | 83 => ⟨S_, .f32⟩
  | 84 => ⟨S100000x32, .f32⟩
  | 85 => ⟨S100000x32, .i1⟩
  | 86 => ⟨S_, .f32⟩
  | 87 => ⟨S_, .f32⟩
  | 88 => ⟨S100000x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x32, .f32⟩
  | 95 => ⟨S50000x2x32, .f32⟩
  | 96 => ⟨S_, .f32⟩
  | 97 => ⟨S50000x32, .f32⟩
  | 98 => ⟨S1x800000, .i32⟩
  | 99 => ⟨S800000, .i32⟩
  | 100 => ⟨S1x800000, .i32⟩
  | 101 => ⟨S800000, .i32⟩
  | 102 => ⟨S_, .f32⟩
  | 103 => ⟨S800000x2, .f32⟩
  | 104 => ⟨S800000x2, .f32⟩
  | 105 => ⟨S800000x2, .f32⟩
  | 106 => ⟨S_, .i32⟩
  | 107 => ⟨S_, .i32⟩
  | 108 => ⟨S_, .f32⟩
  | 109 => ⟨S800000x2, .f32⟩
  | 110 => ⟨S800000x2, .f32⟩
  | 111 => ⟨S_, .f32⟩
  | 112 => ⟨S800000x2, .f32⟩
  | 113 => ⟨S800000x2, .f32⟩
  | 114 => ⟨S800000x2, .i32⟩
  | 115 => ⟨S_, .i32⟩
  | 116 => ⟨S800000x2, .i32⟩
  | 117 => ⟨S800000x2, .i32⟩
  | 118 => ⟨S_, .i32⟩
  | 119 => ⟨S_, .i32⟩
  | 120 => ⟨S_, .i32⟩
  | 121 => ⟨S800000x2, .i32⟩
  | 122 => ⟨S800000x2, .i32⟩
  | 123 => ⟨S_, .i32⟩
  | 124 => ⟨S800000x2, .i32⟩
  | 125 => ⟨S800000x2, .i32⟩
  | 126 => ⟨S800000x2, .f32⟩
  | 127 => ⟨S_, .f32⟩
  | _ => ⟨S100000x1, .f32⟩

abbrev hbmTy0_2 (i : Nat) : BufTy := match i % 128 with
  | 0 => ⟨S800000x2, .f32⟩
  | 1 => ⟨S800000x2, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x32, .f32⟩
  | 11 => ⟨S_, .f32⟩
  | 12 => ⟨S25x50000x32, .f32⟩
  | 13 => ⟨S800000x1, .i32⟩
  | 14 => ⟨S800000, .i32⟩
  | 15 => ⟨S800000x1, .f32⟩
  | 16 => ⟨S800000, .f32⟩
  | 17 => ⟨S800000x1, .i32⟩
  | 18 => ⟨S800000, .i32⟩
  | 19 => ⟨S800000x1, .f32⟩
  | 20 => ⟨S800000, .f32⟩
  | 21 => ⟨S800000x1, .i32⟩
  | 22 => ⟨S800000, .i32⟩
  | 23 => ⟨S800000x1, .f32⟩
  | 24 => ⟨S800000, .f32⟩
  | 25 => ⟨S800000x1, .i32⟩
  | 26 => ⟨S800000, .i32⟩
  | 27 => ⟨S800000x1, .f32⟩
  | 28 => ⟨S800000, .f32⟩
  | 29 => ⟨S_, .i32⟩
  | 30 => ⟨S800000, .i32⟩
  | 31 => ⟨S800000, .i32⟩
  | 32 => ⟨S800000, .i32⟩
  | 33 => ⟨S800000, .f32⟩
  | 34 => ⟨S800000x1, .f32⟩
  | 35 => ⟨S800000x32, .f32⟩
  | 36 => ⟨S800000x32, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x1, .i32⟩
  | 53 => ⟨S800000x2, .i32⟩
  | 54 => ⟨S25x50000x32, .f32⟩
  | 55 => ⟨S_, .i32⟩
  | 56 => ⟨S800000, .i32⟩
  | 57 => ⟨S800000, .i32⟩
  | 58 => ⟨S800000, .i32⟩
  | 59 => ⟨S800000, .f32⟩
  | 60 => ⟨S800000x1, .f32⟩
  | 61 => ⟨S800000x32, .f32⟩
  | 62 => ⟨S800000x32, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x1, .i32⟩
  | 79 => ⟨S800000x2, .i32⟩
  | 80 => ⟨S25x50000x32, .f32⟩
  | 81 => ⟨S800000x1, .i32⟩
  | 82 => ⟨S800000, .i32⟩
  | 83 => ⟨S800000x1, .f32⟩
  | 84 => ⟨S800000, .f32⟩
  | 85 => ⟨S800000x1, .i32⟩
  | 86 => ⟨S800000, .i32⟩
  | 87 => ⟨S800000x1, .f32⟩
  | 88 => ⟨S800000, .f32⟩
  | 89 => ⟨S_, .i32⟩
  | 90 => ⟨S800000, .i32⟩
  | 91 => ⟨S800000, .i32⟩
  | 92 => ⟨S800000, .i32⟩
  | 93 => ⟨S800000, .f32⟩
  | 94 => ⟨S800000x1, .f32⟩
  | 95 => ⟨S800000x32, .f32⟩
  | 96 => ⟨S800000x32, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x1, .i32⟩
  | 113 => ⟨S800000x2, .i32⟩
  | 114 => ⟨S25x50000x32, .f32⟩
  | 115 => ⟨S_, .i32⟩
  | 116 => ⟨S800000, .i32⟩
  | 117 => ⟨S800000, .i32⟩
  | 118 => ⟨S800000, .i32⟩
  | 119 => ⟨S800000, .f32⟩
  | 120 => ⟨S800000x1, .f32⟩
  | 121 => ⟨S800000x32, .f32⟩
  | 122 => ⟨S800000x32, .f32⟩
  | 123 => ⟨S_, .i32⟩
  | 124 => ⟨S800000, .i32⟩
  | 125 => ⟨S800000, .i1⟩
  | 126 => ⟨S_, .i32⟩
  | 127 => ⟨S800000, .i32⟩
  | _ => ⟨S100000x1, .f32⟩

abbrev hbmTy0_3 (i : Nat) : BufTy := match i % 128 with
  | 0 => ⟨S800000, .i32⟩
  | 1 => ⟨S800000, .i32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x1, .i32⟩
  | 11 => ⟨S800000x2, .i32⟩
  | 12 => ⟨S25x50000x32, .f32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S_, .f32⟩
  | 27 => ⟨S50000, .f32⟩
  | 28 => ⟨S50000, .f32⟩
  | 29 => ⟨S50000x64, .f32⟩
  | 30 => ⟨S50000x1, .f32⟩
  | 31 => ⟨S50000x64, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .i1⟩
  | 41 => ⟨S_, .f32⟩
  | 42 => ⟨S50000x64, .f32⟩
  | 43 => ⟨S50000x64, .i1⟩
  | 44 => ⟨S_, .f32⟩
  | 45 => ⟨S_, .f32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S25000x2x64, .f32⟩
  | 54 => ⟨S_, .f32⟩
  | 55 => ⟨S25000x64, .f32⟩
  | 56 => ⟨S1x128, .f32⟩
  | 57 => ⟨S1x10, .f32⟩
  | 58 => ⟨S25x10, .f32⟩
  | _ => ⟨S100000x1, .f32⟩

abbrev hbmTy (i : Nat) : BufTy := match i / 128 with
  | 0 => hbmTy0_0 i
  | 1 => hbmTy0_1 i
  | 2 => hbmTy0_2 i
  | 3 => hbmTy0_3 i
  | _ => ⟨S100000x1, .f32⟩

abbrev bufTy : (tb : Table) → Fin (tcTables nBuf tb) → BufTy
  | .hbm, ⟨i, _⟩ => hbmTy i
  | .local _ .vmem, ⟨0, _⟩ => ⟨S25000x64, .f32⟩
  | .local _ .vmem, ⟨1, _⟩ => ⟨S64x128, .f32⟩
  | .local _ .vmem, ⟨2, _⟩ => ⟨S1x128, .f32⟩
  | .local _ .vmem, ⟨3, _⟩ => ⟨S128x10, .f32⟩
  | .local _ .vmem, ⟨4, _⟩ => ⟨S1x10, .f32⟩
  | .local _ .vmem, ⟨5, _⟩ => ⟨S25x10, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v11 : Ref sig .tc := ⟨.hbm, 43, rfl⟩
abbrev main_v12 : Ref sig .tc := ⟨.hbm, 44, rfl⟩
abbrev main_cst_4 : Ref sig .tc := ⟨.hbm, 45, rfl⟩
abbrev main_v13 : Ref sig .tc := ⟨.hbm, 46, rfl⟩
abbrev main_v14 : Ref sig .tc := ⟨.hbm, 47, rfl⟩
abbrev main_c_5 : Ref sig .tc := ⟨.hbm, 48, rfl⟩
abbrev main_v15 : Ref sig .tc := ⟨.hbm, 49, rfl⟩
abbrev main_v16 : Ref sig .tc := ⟨.hbm, 50, rfl⟩
abbrev main_c_6 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_7 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_9 : Ref sig .tc := ⟨.hbm, 82, rfl⟩
abbrev main_v45 : Ref sig .tc := ⟨.hbm, 83, rfl⟩
abbrev main_v46 : Ref sig .tc := ⟨.hbm, 84, rfl⟩
abbrev main_c_10 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_11 : Ref sig .tc := ⟨.hbm, 89, rfl⟩
abbrev main_v50 : Ref sig .tc := ⟨.hbm, 90, rfl⟩
abbrev main_v51 : Ref sig .tc := ⟨.hbm, 91, rfl⟩
abbrev main_c_12 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_13 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_14 : Ref sig .tc := ⟨.hbm, 107, rfl⟩
abbrev main_v65 : Ref sig .tc := ⟨.hbm, 108, rfl⟩
abbrev main_v66 : Ref sig .tc := ⟨.hbm, 109, rfl⟩
abbrev main_c_15 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_16 : Ref sig .tc := ⟨.hbm, 114, rfl⟩
abbrev main_v70 : Ref sig .tc := ⟨.hbm, 115, rfl⟩
abbrev main_v71 : Ref sig .tc := ⟨.hbm, 116, rfl⟩
abbrev main_c_17 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_18 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_19 : Ref sig .tc := ⟨.hbm, 140, rfl⟩
abbrev main_v93 : Ref sig .tc := ⟨.hbm, 141, rfl⟩
abbrev main_v94 : Ref sig .tc := ⟨.hbm, 142, rfl⟩
abbrev main_c_20 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_21 : Ref sig .tc := ⟨.hbm, 147, rfl⟩
abbrev main_v98 : Ref sig .tc := ⟨.hbm, 148, rfl⟩
abbrev main_v99 : Ref sig .tc := ⟨.hbm, 149, rfl⟩
abbrev main_c_22 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_23 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_c_24 : Ref sig .tc := ⟨.hbm, 165, rfl⟩
abbrev main_v113 : Ref sig .tc := ⟨.hbm, 166, rfl⟩
abbrev main_v114 : Ref sig .tc := ⟨.hbm, 167, rfl⟩
abbrev main_c_25 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_26 : Ref sig .tc := ⟨.hbm, 172, rfl⟩
abbrev main_v118 : Ref sig .tc := ⟨.hbm, 173, rfl⟩
abbrev main_v119 : Ref sig .tc := ⟨.hbm, 174, rfl⟩
abbrev main_c_27 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_28 : Ref sig .tc := ⟨.hbm, 183, rfl⟩
abbrev main_v127 : Ref sig .tc := ⟨.hbm, 184, rfl⟩
abbrev main_c_29 : Ref sig .tc := ⟨.hbm, 185, rfl⟩
abbrev main_v128 : Ref sig .tc := ⟨.hbm, 186, rfl⟩
abbrev main_v129 : Ref sig .tc := ⟨.hbm, 187, rfl⟩
abbrev main_c_30 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_31 : Ref sig .tc := ⟨.hbm, 193, rfl⟩
abbrev main_v134 : Ref sig .tc := ⟨.hbm, 194, rfl⟩
abbrev main_v135 : Ref sig .tc := ⟨.hbm, 195, rfl⟩
abbrev main_cst_32 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_call2_cst : Ref sig .tc := ⟨.hbm, 208, rfl⟩
abbrev main_call2_v0 : Ref sig .tc := ⟨.hbm, 209, rfl⟩
abbrev main_call2_v1 : Ref sig .tc := ⟨.hbm, 210, rfl⟩
abbrev main_call2_cst_0 : Ref sig .tc := ⟨.hbm, 211, rfl⟩
abbrev main_call2_v2 : Ref sig .tc := ⟨.hbm, 212, rfl⟩
abbrev main_call2_v3 : Ref sig .tc := ⟨.hbm, 213, rfl⟩
abbrev main_call2_cst_1 : Ref sig .tc := ⟨.hbm, 214, rfl⟩
abbrev main_call2_call0_v0 : Ref sig .tc := ⟨.hbm, 215, rfl⟩
abbrev main_call2_call0_v1 : Ref sig .tc := ⟨.hbm, 216, rfl⟩
abbrev main_call2_v4 : Ref sig .tc := ⟨.hbm, 217, rfl⟩
abbrev main_call2_v5 : Ref sig .tc := ⟨.hbm, 218, rfl⟩
abbrev main_call2_cst_2 : Ref sig .tc := ⟨.hbm, 219, rfl⟩
abbrev main_call2_v6 : Ref sig .tc := ⟨.hbm, 220, rfl⟩
abbrev main_call2_v7 : Ref sig .tc := ⟨.hbm, 221, rfl⟩
abbrev main_v147 : Ref sig .tc := ⟨.hbm, 222, rfl⟩
abbrev main_v148 : Ref sig .tc := ⟨.hbm, 223, rfl⟩
abbrev main_cst_33 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_cst_34 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_c_35 : Ref sig .tc := ⟨.hbm, 234, rfl⟩
abbrev main_c_36 : Ref sig .tc := ⟨.hbm, 235, rfl⟩
abbrev main_call3_v0 : Ref sig .tc := ⟨.hbm, 236, rfl⟩
abbrev main_call3_v1 : Ref sig .tc := ⟨.hbm, 237, rfl⟩
abbrev main_call3_v2 : Ref sig .tc := ⟨.hbm, 238, rfl⟩
abbrev main_call3_v3 : Ref sig .tc := ⟨.hbm, 239, rfl⟩
abbrev main_call3_v4 : Ref sig .tc := ⟨.hbm, 240, rfl⟩
abbrev main_v157 : Ref sig .tc := ⟨.hbm, 241, rfl⟩
abbrev main_v158 : Ref sig .tc := ⟨.hbm, 242, rfl⟩
abbrev main_c_37 : Ref sig .tc := ⟨.hbm, 243, rfl⟩
abbrev main_v159 : Ref sig .tc := ⟨.hbm, 244, rfl⟩
abbrev main_v160 : Ref sig .tc := ⟨.hbm, 245, rfl⟩
abbrev main_c_38 : Ref sig .tc := ⟨.hbm, 246, rfl⟩
abbrev main_c_39 : Ref sig .tc := ⟨.hbm, 247, rfl⟩
abbrev main_call4_v0 : Ref sig .tc := ⟨.hbm, 248, rfl⟩
abbrev main_call4_v1 : Ref sig .tc := ⟨.hbm, 249, rfl⟩
abbrev main_call4_v2 : Ref sig .tc := ⟨.hbm, 250, rfl⟩
abbrev main_call4_v3 : Ref sig .tc := ⟨.hbm, 251, rfl⟩
abbrev main_call4_v4 : Ref sig .tc := ⟨.hbm, 252, rfl⟩
abbrev main_v161 : Ref sig .tc := ⟨.hbm, 253, rfl⟩
abbrev main_v162 : Ref sig .tc := ⟨.hbm, 254, rfl⟩
abbrev main_cst_40 : Ref sig .tc := ⟨.hbm, 255, rfl⟩
abbrev main_v163 : Ref sig .tc := ⟨.hbm, 256, rfl⟩
abbrev main_v164 : Ref sig .tc := ⟨.hbm, 257, rfl⟩
abbrev main_c_41 : Ref sig .tc := ⟨.hbm, 258, rfl⟩
abbrev main_v165 : Ref sig .tc := ⟨.hbm, 259, rfl⟩
abbrev main_v166 : Ref sig .tc := ⟨.hbm, 260, rfl⟩
abbrev main_c_42 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_cst_43 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_c_44 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_c_45 : Ref sig .tc := ⟨.hbm, 293, rfl⟩
abbrev main_v196 : Ref sig .tc := ⟨.hbm, 294, rfl⟩
abbrev main_v197 : Ref sig .tc := ⟨.hbm, 295, rfl⟩
abbrev main_c_46 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_c_47 : Ref sig .tc := ⟨.hbm, 300, rfl⟩
abbrev main_v201 : Ref sig .tc := ⟨.hbm, 301, rfl⟩
abbrev main_v202 : Ref sig .tc := ⟨.hbm, 302, rfl⟩
abbrev main_c_48 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_c_49 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_c_50 : Ref sig .tc := ⟨.hbm, 319, rfl⟩
abbrev main_v217 : Ref sig .tc := ⟨.hbm, 320, rfl⟩
abbrev main_v218 : Ref sig .tc := ⟨.hbm, 321, rfl⟩
abbrev main_c_51 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_c_52 : Ref sig .tc := ⟨.hbm, 326, rfl⟩
abbrev main_v222 : Ref sig .tc := ⟨.hbm, 327, rfl⟩
abbrev main_v223 : Ref sig .tc := ⟨.hbm, 328, rfl⟩
abbrev main_c_53 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_c_54 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_c_55 : Ref sig .tc := ⟨.hbm, 353, rfl⟩
abbrev main_v246 : Ref sig .tc := ⟨.hbm, 354, rfl⟩
abbrev main_v247 : Ref sig .tc := ⟨.hbm, 355, rfl⟩
abbrev main_c_56 : Ref sig .tc := ⟨.hbm, 356, rfl⟩
abbrev main_v248 : Ref sig .tc := ⟨.hbm, 357, rfl⟩
abbrev main_v249 : Ref sig .tc := ⟨.hbm, 358, rfl⟩
abbrev main_v250 : Ref sig .tc := ⟨.hbm, 359, rfl⟩
abbrev main_c_57 : Ref sig .tc := ⟨.hbm, 360, rfl⟩
abbrev main_v251 : Ref sig .tc := ⟨.hbm, 361, rfl⟩
abbrev main_v252 : Ref sig .tc := ⟨.hbm, 362, rfl⟩
abbrev main_c_58 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_c_59 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_c_60 : Ref sig .tc := ⟨.hbm, 379, rfl⟩
abbrev main_v267 : Ref sig .tc := ⟨.hbm, 380, rfl⟩
abbrev main_v268 : Ref sig .tc := ⟨.hbm, 381, rfl⟩
abbrev main_c_61 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_c_62 : Ref sig .tc := ⟨.hbm, 386, rfl⟩
abbrev main_v272 : Ref sig .tc := ⟨.hbm, 387, rfl⟩
abbrev main_v273 : Ref sig .tc := ⟨.hbm, 388, rfl⟩
abbrev main_c_63 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_cst_64 : Ref sig .tc := ⟨.hbm, 397, rfl⟩
abbrev main_v281 : Ref sig .tc := ⟨.hbm, 398, rfl⟩
abbrev main_c_65 : Ref sig .tc := ⟨.hbm, 399, rfl⟩
abbrev main_v282 : Ref sig .tc := ⟨.hbm, 400, rfl⟩
abbrev main_v283 : Ref sig .tc := ⟨.hbm, 401, rfl⟩
abbrev main_c_66 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_cst_67 : Ref sig .tc := ⟨.hbm, 407, rfl⟩
abbrev main_v288 : Ref sig .tc := ⟨.hbm, 408, rfl⟩
abbrev main_v289 : Ref sig .tc := ⟨.hbm, 409, rfl⟩
abbrev main_cst_68 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_v293 : Ref sig .tc := ⟨.hbm, 414, rfl⟩
abbrev main_v294 : Ref sig .tc := ⟨.hbm, 415, rfl⟩
abbrev main_v295 : Ref sig .tc := ⟨.hbm, 416, rfl⟩
abbrev main_v296 : Ref sig .tc := ⟨.hbm, 417, rfl⟩
abbrev main_v297 : Ref sig .tc := ⟨.hbm, 418, rfl⟩
abbrev main_v298 : Ref sig .tc := ⟨.hbm, 419, rfl⟩
abbrev main_v299 : Ref sig .tc := ⟨.hbm, 420, rfl⟩
abbrev main_v300 : Ref sig .tc := ⟨.hbm, 421, rfl⟩
abbrev main_call5_cst : Ref sig .tc := ⟨.hbm, 422, rfl⟩
abbrev main_call5_v0 : Ref sig .tc := ⟨.hbm, 423, rfl⟩
abbrev main_call5_v1 : Ref sig .tc := ⟨.hbm, 424, rfl⟩
abbrev main_call5_cst_0 : Ref sig .tc := ⟨.hbm, 425, rfl⟩
abbrev main_call5_v2 : Ref sig .tc := ⟨.hbm, 426, rfl⟩
abbrev main_call5_v3 : Ref sig .tc := ⟨.hbm, 427, rfl⟩
abbrev main_call5_cst_1 : Ref sig .tc := ⟨.hbm, 428, rfl⟩
abbrev main_call5_call0_v0 : Ref sig .tc := ⟨.hbm, 429, rfl⟩
abbrev main_call5_call0_v1 : Ref sig .tc := ⟨.hbm, 430, rfl⟩
abbrev main_call5_v4 : Ref sig .tc := ⟨.hbm, 431, rfl⟩
abbrev main_call5_v5 : Ref sig .tc := ⟨.hbm, 432, rfl⟩
abbrev main_call5_cst_2 : Ref sig .tc := ⟨.hbm, 433, rfl⟩
abbrev main_call5_v6 : Ref sig .tc := ⟨.hbm, 434, rfl⟩
abbrev main_call5_v7 : Ref sig .tc := ⟨.hbm, 435, rfl⟩
abbrev main_v301 : Ref sig .tc := ⟨.hbm, 436, rfl⟩
abbrev main_v302 : Ref sig .tc := ⟨.hbm, 437, rfl⟩
abbrev main_cst_69 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_v306 : Ref sig .tc := ⟨.hbm, 442, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S25000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S25x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S100000x1 : Shape := ⟨2, ![100000, 1]⟩
abbrev S2x1600000 : Shape := ⟨2, ![2, 1600000]⟩
abbrev S1600000x2 : Shape := ⟨2, ![1600000, 2]⟩
abbrev S2x800000 : Shape := ⟨2, ![2, 800000]⟩
abbrev S800000x2 : Shape := ⟨2, ![800000, 2]⟩
abbrev S26 : Shape := ⟨1, ![26]⟩
abbrev S25x1x32 : Shape := ⟨3, ![25, 1, 32]⟩
abbrev S1x32 : Shape := ⟨2, ![1, 32]⟩
abbrev S32 : Shape := ⟨1, ![32]⟩
abbrev S25x32x64 : Shape := ⟨3, ![25, 32, 64]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S25x100000x1 : Shape := ⟨3, ![25, 100000, 1]⟩
abbrev S100000 : Shape := ⟨1, ![100000]⟩
abbrev S100000x32 : Shape := ⟨2, ![100000, 32]⟩
abbrev S50000x2x32 : Shape := ⟨3, ![50000, 2, 32]⟩
abbrev S50000x32 : Shape := ⟨2, ![50000, 32]⟩
abbrev S1x800000 : Shape := ⟨2, ![1, 800000]⟩
abbrev S800000 : Shape := ⟨1, ![800000]⟩
abbrev S800000x1 : Shape := ⟨2, ![800000, 1]⟩
abbrev S800000x32 : Shape := ⟨2, ![800000, 32]⟩
abbrev S25x50000x32 : Shape := ⟨3, ![25, 50000, 32]⟩
abbrev S50000 : Shape := ⟨1, ![50000]⟩
abbrev S50000x64 : Shape := ⟨2, ![50000, 64]⟩
abbrev S50000x1 : Shape := ⟨2, ![50000, 1]⟩
abbrev S1x64 : Shape := ⟨2, ![1, 64]⟩
abbrev S25000x2x64 : Shape := ⟨3, ![25000, 2, 64]⟩
abbrev S25000x64 : Shape := ⟨2, ![25000, 64]⟩
abbrev S25001x64 : Shape := ⟨2, ![25001, 64]⟩
abbrev S25 : Shape := ⟨1, ![25]⟩
abbrev S25x1 : Shape := ⟨2, ![25, 1]⟩
abbrev S25x64 : Shape := ⟨2, ![25, 64]⟩
abbrev S25x128 : Shape := ⟨2, ![25, 128]⟩
abbrev S1x128 : Shape := ⟨2, ![1, 128]⟩
abbrev S25x10 : Shape := ⟨2, ![25, 10]⟩
abbrev S1x10 : Shape := ⟨2, ![1, 10]⟩

abbrev nBuf : Space → Nat
  | .hbm => 515
  | .vmem => 0
  | .smem => 0
  | _ => 0

abbrev hbmTy0_0 (i : Nat) : BufTy := match i % 128 with
  | 0 => ⟨S100000x1, .f32⟩
  | 1 => ⟨S2x1600000, .i32⟩
  | 2 => ⟨S1600000x2, .f32⟩
  | 3 => ⟨S2x800000, .i32⟩
  | 4 => ⟨S800000x2, .f32⟩
  | 5 => ⟨S26, .i32⟩
  | 6 => ⟨S25x1x32, .f32⟩
  | 7 => ⟨S1x32, .f32⟩
  | 8 => ⟨S32, .f32⟩
  | 9 => ⟨S25x32x64, .f32⟩
  | 10 => ⟨S32x64, .f32⟩
  | 11 => ⟨S64, .f32⟩
  | 12 => ⟨S64x128, .f32⟩
  | 13 => ⟨S128, .f32⟩
  | 14 => ⟨S128x10, .f32⟩
  | 15 => ⟨S10, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000x2, .f32⟩
  | 22 => ⟨S1600000x2, .f32⟩
  | 23 => ⟨S1600000x2, .f32⟩
  | 24 => ⟨S_, .i32⟩
  | 25 => ⟨S_, .i32⟩
  | 26 => ⟨S_, .f32⟩
  | 27 => ⟨S1600000x2, .f32⟩
  | 28 => ⟨S1600000x2, .f32⟩
  | 29 => ⟨S_, .f32⟩
  | 30 => ⟨S1600000x2, .f32⟩
  | 31 => ⟨S1600000x2, .f32⟩
  | 32 => ⟨S1600000x2, .i32⟩
  | 33 => ⟨S_, .i32⟩
  | 34 => ⟨S1600000x2, .i32⟩
  | 35 => ⟨S1600000x2, .i32⟩
  | 36 => ⟨S_, .i32⟩
  | 37 => ⟨S_, .i32⟩
  | 38 => ⟨S_, .i32⟩
  | 39 => ⟨S1600000x2, .i32⟩
  | 40 => ⟨S1600000x2, .i32⟩
  | 41 => ⟨S_, .i32⟩
  | 42 => ⟨S1600000x2, .i32⟩
  | 43 => ⟨S1600000x2, .i32⟩
  | 44 => ⟨S1600000x2, .f32⟩
  | 45 => ⟨S_, .f32⟩
  | 46 => ⟨S1600000x2, .f32⟩
  | 47 => ⟨S1600000x2, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x1, .f32⟩
  | 57 => ⟨S_, .f32⟩
  | 58 => ⟨S25x100000x1, .f32⟩
  | 59 => ⟨S1600000x1, .i32⟩
  | 60 => ⟨S1600000, .i32⟩
  | 61 => ⟨S1600000x1, .f32⟩
  | 62 => ⟨S1600000, .f32⟩
  | 63 => ⟨S1600000x1, .i32⟩
  | 64 => ⟨S1600000, .i32⟩
  | 65 => ⟨S1600000x1, .f32⟩
  | 66 => ⟨S1600000, .f32⟩
  | 67 => ⟨S1600000x1, .i32⟩
  | 68 => ⟨S1600000, .i32⟩
  | 69 => ⟨S1600000x1, .f32⟩
  | 70 => ⟨S1600000, .f32⟩
  | 71 => ⟨S1600000x1, .i32⟩
  | 72 => ⟨S1600000, .i32⟩
  | 73 => ⟨S1600000x1, .f32⟩
  | 74 => ⟨S1600000, .f32⟩
  | 75 => ⟨S_, .i32⟩
  | 76 => ⟨S1600000, .i32⟩
  | 77 => ⟨S1600000, .i32⟩
  | 78 => ⟨S1600000, .i32⟩
  | 79 => ⟨S1600000, .f32⟩
  | 80 => ⟨S1600000x1, .f32⟩
  | 81 => ⟨S1600000x1, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x1, .i32⟩
  | 98 => ⟨S1600000x2, .i32⟩
  | 99 => ⟨S25x100000x1, .f32⟩
  | 100 => ⟨S_, .i32⟩
  | 101 => ⟨S1600000, .i32⟩
  | 102 => ⟨S1600000, .i32⟩
  | 103 => ⟨S1600000, .i32⟩
  | 104 => ⟨S1600000, .f32⟩
  | 105 => ⟨S1600000x1, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x1, .i32⟩
  | 123 => ⟨S1600000x2, .i32⟩
  | 124 => ⟨S25x100000x1, .f32⟩
  | 125 => ⟨S1600000x1, .i32⟩
  | 126 => ⟨S1600000, .i32⟩
  | 127 => ⟨S1600000x1, .f32⟩
  | _ => ⟨S100000x1, .f32⟩

abbrev hbmTy0_1 (i : Nat) : BufTy := match i % 128 with
  | 0 => ⟨S1600000, .f32⟩
  | 1 => ⟨S1600000x1, .i32⟩
  | 2 => ⟨S1600000, .i32⟩
  | 3 => ⟨S1600000x1, .f32⟩
  | 4 => ⟨S1600000, .f32⟩
  | 5 => ⟨S_, .i32⟩
  | 6 => ⟨S1600000, .i32⟩
  | 7 => ⟨S1600000, .i32⟩
  | 8 => ⟨S1600000, .i32⟩
  | 9 => ⟨S1600000, .f32⟩
  | 10 => ⟨S1600000x1, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x1, .i32⟩
  | 28 => ⟨S1600000x2, .i32⟩
  | 29 => ⟨S25x100000x1, .f32⟩
  | 30 => ⟨S_, .i32⟩
  | 31 => ⟨S1600000, .i32⟩
  | 32 => ⟨S1600000, .i32⟩
  | 33 => ⟨S1600000, .i32⟩
  | 34 => ⟨S1600000, .f32⟩
  | 35 => ⟨S1600000x1, .f32⟩
  | 36 => ⟨S1600000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x1, .i32⟩
  | 53 => ⟨S1600000x2, .i32⟩
  | 54 => ⟨S25x100000x1, .f32⟩
  | 55 => ⟨S_, .f32⟩
  | 56 => ⟨S100000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S_, .f32⟩
  | 66 => ⟨S1600000, .f32⟩
  | 67 => ⟨S100000, .f32⟩
  | 68 => ⟨S_, .f32⟩
  | 69 => ⟨S100000, .f32⟩
  | 70 => ⟨S100000, .f32⟩
  | 71 => ⟨S100000x32, .f32⟩
  | 72 => ⟨S100000x1, .f32⟩
  | 73 => ⟨S100000x32, .f32⟩
  | 74 => ⟨S100000x32, .f32⟩
  | 75 => ⟨S100000x32, .f32⟩
  | 76 => ⟨S100000x32, .f32⟩
  | 77 => ⟨S1x32, .f32⟩
  | 78 => ⟨S100000x32, .f32⟩
  | 79 => ⟨S100000x32, .f32⟩
  | 80 => ⟨S_, .f32⟩
  | 81 => ⟨S100000x32, .f32⟩
  | 82 => ⟨S100000x32, .i1⟩
  | 83 => ⟨S_, .f32⟩
  | 84 => ⟨S100000x32, .f32⟩
  | 85 => ⟨S100000x32, .i1⟩
  | 86 => ⟨S_, .f32⟩
  | 87 => ⟨S_, .f32⟩
  | 88 => ⟨S100000x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x32, .f32⟩
  | 95 => ⟨S50000x2x32, .f32⟩
  | 96 => ⟨S_, .f32⟩
  | 97 => ⟨S50000x32, .f32⟩
  | 98 => ⟨S1x800000, .i32⟩
  | 99 => ⟨S800000, .i32⟩
  | 100 => ⟨S1x800000, .i32⟩
  | 101 => ⟨S800000, .i32⟩
  | 102 => ⟨S_, .f32⟩
  | 103 => ⟨S800000x2, .f32⟩
  | 104 => ⟨S800000x2, .f32⟩
  | 105 => ⟨S800000x2, .f32⟩
  | 106 => ⟨S_, .i32⟩
  | 107 => ⟨S_, .i32⟩
  | 108 => ⟨S_, .f32⟩
  | 109 => ⟨S800000x2, .f32⟩
  | 110 => ⟨S800000x2, .f32⟩
  | 111 => ⟨S_, .f32⟩
  | 112 => ⟨S800000x2, .f32⟩
  | 113 => ⟨S800000x2, .f32⟩
  | 114 => ⟨S800000x2, .i32⟩
  | 115 => ⟨S_, .i32⟩
  | 116 => ⟨S800000x2, .i32⟩
  | 117 => ⟨S800000x2, .i32⟩
  | 118 => ⟨S_, .i32⟩
  | 119 => ⟨S_, .i32⟩
  | 120 => ⟨S_, .i32⟩
  | 121 => ⟨S800000x2, .i32⟩
  | 122 => ⟨S800000x2, .i32⟩
  | 123 => ⟨S_, .i32⟩
  | 124 => ⟨S800000x2, .i32⟩
  | 125 => ⟨S800000x2, .i32⟩
  | 126 => ⟨S800000x2, .f32⟩
  | 127 => ⟨S_, .f32⟩
  | _ => ⟨S100000x1, .f32⟩

abbrev hbmTy0_2 (i : Nat) : BufTy := match i % 128 with
  | 0 => ⟨S800000x2, .f32⟩
  | 1 => ⟨S800000x2, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x32, .f32⟩
  | 11 => ⟨S_, .f32⟩
  | 12 => ⟨S25x50000x32, .f32⟩
  | 13 => ⟨S800000x1, .i32⟩
  | 14 => ⟨S800000, .i32⟩
  | 15 => ⟨S800000x1, .f32⟩
  | 16 => ⟨S800000, .f32⟩
  | 17 => ⟨S800000x1, .i32⟩
  | 18 => ⟨S800000, .i32⟩
  | 19 => ⟨S800000x1, .f32⟩
  | 20 => ⟨S800000, .f32⟩
  | 21 => ⟨S800000x1, .i32⟩
  | 22 => ⟨S800000, .i32⟩
  | 23 => ⟨S800000x1, .f32⟩
  | 24 => ⟨S800000, .f32⟩
  | 25 => ⟨S800000x1, .i32⟩
  | 26 => ⟨S800000, .i32⟩
  | 27 => ⟨S800000x1, .f32⟩
  | 28 => ⟨S800000, .f32⟩
  | 29 => ⟨S_, .i32⟩
  | 30 => ⟨S800000, .i32⟩
  | 31 => ⟨S800000, .i32⟩
  | 32 => ⟨S800000, .i32⟩
  | 33 => ⟨S800000, .f32⟩
  | 34 => ⟨S800000x1, .f32⟩
  | 35 => ⟨S800000x32, .f32⟩
  | 36 => ⟨S800000x32, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x1, .i32⟩
  | 53 => ⟨S800000x2, .i32⟩
  | 54 => ⟨S25x50000x32, .f32⟩
  | 55 => ⟨S_, .i32⟩
  | 56 => ⟨S800000, .i32⟩
  | 57 => ⟨S800000, .i32⟩
  | 58 => ⟨S800000, .i32⟩
  | 59 => ⟨S800000, .f32⟩
  | 60 => ⟨S800000x1, .f32⟩
  | 61 => ⟨S800000x32, .f32⟩
  | 62 => ⟨S800000x32, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x1, .i32⟩
  | 79 => ⟨S800000x2, .i32⟩
  | 80 => ⟨S25x50000x32, .f32⟩
  | 81 => ⟨S800000x1, .i32⟩
  | 82 => ⟨S800000, .i32⟩
  | 83 => ⟨S800000x1, .f32⟩
  | 84 => ⟨S800000, .f32⟩
  | 85 => ⟨S800000x1, .i32⟩
  | 86 => ⟨S800000, .i32⟩
  | 87 => ⟨S800000x1, .f32⟩
  | 88 => ⟨S800000, .f32⟩
  | 89 => ⟨S_, .i32⟩
  | 90 => ⟨S800000, .i32⟩
  | 91 => ⟨S800000, .i32⟩
  | 92 => ⟨S800000, .i32⟩
  | 93 => ⟨S800000, .f32⟩
  | 94 => ⟨S800000x1, .f32⟩
  | 95 => ⟨S800000x32, .f32⟩
  | 96 => ⟨S800000x32, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x1, .i32⟩
  | 113 => ⟨S800000x2, .i32⟩
  | 114 => ⟨S25x50000x32, .f32⟩
  | 115 => ⟨S_, .i32⟩
  | 116 => ⟨S800000, .i32⟩
  | 117 => ⟨S800000, .i32⟩
  | 118 => ⟨S800000, .i32⟩
  | 119 => ⟨S800000, .f32⟩
  | 120 => ⟨S800000x1, .f32⟩
  | 121 => ⟨S800000x32, .f32⟩
  | 122 => ⟨S800000x32, .f32⟩
  | 123 => ⟨S_, .i32⟩
  | 124 => ⟨S800000, .i32⟩
  | 125 => ⟨S800000, .i1⟩
  | 126 => ⟨S_, .i32⟩
  | 127 => ⟨S800000, .i32⟩
  | _ => ⟨S100000x1, .f32⟩

abbrev hbmTy0_3 (i : Nat) : BufTy := match i % 128 with
  | 0 => ⟨S800000, .i32⟩
  | 1 => ⟨S800000, .i32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x1, .i32⟩
  | 11 => ⟨S800000x2, .i32⟩
  | 12 => ⟨S25x50000x32, .f32⟩
  | 13 => ⟨S_, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S_, .f32⟩
  | 24 => ⟨S800000, .f32⟩
  | 25 => ⟨S50000, .f32⟩
  | 26 => ⟨S_, .f32⟩
  | 27 => ⟨S50000, .f32⟩
  | 28 => ⟨S50000, .f32⟩
  | 29 => ⟨S50000x64, .f32⟩
  | 30 => ⟨S50000x1, .f32⟩
  | 31 => ⟨S50000x64, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .i1⟩
  | 41 => ⟨S_, .f32⟩
  | 42 => ⟨S50000x64, .f32⟩
  | 43 => ⟨S50000x64, .i1⟩
  | 44 => ⟨S_, .f32⟩
  | 45 => ⟨S_, .f32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S25000x2x64, .f32⟩
  | 54 => ⟨S_, .f32⟩
  | 55 => ⟨S25000x64, .f32⟩
  | 56 => ⟨S_, .f32⟩
  | 57 => ⟨S1x64, .f32⟩
  | 58 => ⟨S_, .f32⟩
  | 59 => ⟨S_, .f32⟩
  | 60 => ⟨S25000x64, .f32⟩
  | 61 => ⟨S25001x64, .f32⟩
  | 62 => ⟨S25, .i32⟩
  | 63 => ⟨S_, .i32⟩
  | 64 => ⟨S25, .i32⟩
  | 65 => ⟨S25, .i1⟩
  | 66 => ⟨S_, .i32⟩
  | 67 => ⟨S25, .i32⟩
  | 68 => ⟨S25, .i32⟩
  | 69 => ⟨S25, .i32⟩
  | 70 => ⟨S25x1, .i32⟩
  | 71 => ⟨S25x64, .f32⟩
  | 72 => ⟨S25, .i32⟩
  | 73 => ⟨S_, .i32⟩
  | 74 => ⟨S25, .i32⟩
  | 75 => ⟨S25, .i1⟩
  | 76 => ⟨S_, .i32⟩
  | 77 => ⟨S25, .i32⟩
  | 78 => ⟨S25, .i32⟩
  | 79 => ⟨S25, .i32⟩
  | 80 => ⟨S25x1, .i32⟩
  | 81 => ⟨S25x64, .f32⟩
  | 82 => ⟨S25x64, .f32⟩
  | 83 => ⟨S25, .i32⟩
  | 84 => ⟨S25, .i32⟩
  | 85 => ⟨S25, .i32⟩
  | 86 => ⟨S25, .f32⟩
  | 87 => ⟨S_, .f32⟩
  | 88 => ⟨S25, .f32⟩
  | 89 => ⟨S25, .f32⟩
  | 90 => ⟨S25x1, .f32⟩
  | 91 => ⟨S25x64, .f32⟩
  | 92 => ⟨S25x64, .f32⟩
  | 93 => ⟨S25x128, .f32⟩
  | 94 => ⟨S1x128, .f32⟩
  | 95 => ⟨S25x128, .f32⟩
  | 96 => ⟨S25x128, .f32⟩
  | 97 => ⟨S_, .f32⟩
  | 98 => ⟨S25x128, .f32⟩
  | 99 => ⟨S25x128, .i1⟩
  | 100 => ⟨S_, .f32⟩
  | 101 => ⟨S25x128, .f32⟩
  | 102 => ⟨S25x128, .i1⟩
  | 103 => ⟨S_, .f32⟩
  | 104 => ⟨S_, .f32⟩
  | 105 => ⟨S25x128, .f32⟩
  | 106 => ⟨S25x128, .f32⟩
  | 107 => ⟨S25x128, .f32⟩
  | 108 => ⟨S_, .f32⟩
  | 109 => ⟨S25x128, .f32⟩
  | 110 => ⟨S25x128, .f32⟩
  | 111 => ⟨S25x128, .f32⟩
  | 112 => ⟨S25x10, .f32⟩
  | 113 => ⟨S1x10, .f32⟩
  | 114 => ⟨S25x10, .f32⟩
  | 115 => ⟨S25x10, .f32⟩
  | 116 => ⟨S_, .f32⟩
  | 117 => ⟨S25, .f32⟩
  | 118 => ⟨S_, .f32⟩
  | 119 => ⟨S25, .f32⟩
  | 120 => ⟨S25, .f32⟩
  | 121 => ⟨S25x1, .f32⟩
  | 122 => ⟨S25x10, .f32⟩
  | 123 => ⟨S25x10, .f32⟩
  | 124 => ⟨S25x10, .f32⟩
  | 125 => ⟨S_, .f32⟩
  | 126 => ⟨S25, .f32⟩
  | 127 => ⟨S25x1, .f32⟩
  | _ => ⟨S100000x1, .f32⟩

abbrev hbmTy0_4 (i : Nat) : BufTy := match i % 128 with
  | 0 => ⟨S25x1, .f32⟩
  | 1 => ⟨S25x10, .f32⟩
  | 2 => ⟨S25x10, .f32⟩
  | _ => ⟨S100000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v11 : Ref sig .tc := ⟨.hbm, 43, rfl⟩
abbrev main_v12 : Ref sig .tc := ⟨.hbm, 44, rfl⟩
abbrev main_cst_4 : Ref sig .tc := ⟨.hbm, 45, rfl⟩
abbrev main_v13 : Ref sig .tc := ⟨.hbm, 46, rfl⟩
abbrev main_v14 : Ref sig .tc := ⟨.hbm, 47, rfl⟩
abbrev main_c_5 : Ref sig .tc := ⟨.hbm, 48, rfl⟩
abbrev main_v15 : Ref sig .tc := ⟨.hbm, 49, rfl⟩
abbrev main_v16 : Ref sig .tc := ⟨.hbm, 50, rfl⟩
abbrev main_c_6 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_7 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_9 : Ref sig .tc := ⟨.hbm, 82, rfl⟩
abbrev main_v45 : Ref sig .tc := ⟨.hbm, 83, rfl⟩
abbrev main_v46 : Ref sig .tc := ⟨.hbm, 84, rfl⟩
abbrev main_c_10 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_11 : Ref sig .tc := ⟨.hbm, 89, rfl⟩
abbrev main_v50 : Ref sig .tc := ⟨.hbm, 90, rfl⟩
abbrev main_v51 : Ref sig .tc := ⟨.hbm, 91, rfl⟩
abbrev main_c_12 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_13 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_14 : Ref sig .tc := ⟨.hbm, 107, rfl⟩
abbrev main_v65 : Ref sig .tc := ⟨.hbm, 108, rfl⟩
abbrev main_v66 : Ref sig .tc := ⟨.hbm, 109, rfl⟩
abbrev main_c_15 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_16 : Ref sig .tc := ⟨.hbm, 114, rfl⟩
abbrev main_v70 : Ref sig .tc := ⟨.hbm, 115, rfl⟩
abbrev main_v71 : Ref sig .tc := ⟨.hbm, 116, rfl⟩
abbrev main_c_17 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_18 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_19 : Ref sig .tc := ⟨.hbm, 140, rfl⟩
abbrev main_v93 : Ref sig .tc := ⟨.hbm, 141, rfl⟩
abbrev main_v94 : Ref sig .tc := ⟨.hbm, 142, rfl⟩
abbrev main_c_20 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_21 : Ref sig .tc := ⟨.hbm, 147, rfl⟩
abbrev main_v98 : Ref sig .tc := ⟨.hbm, 148, rfl⟩
abbrev main_v99 : Ref sig .tc := ⟨.hbm, 149, rfl⟩
abbrev main_c_22 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_23 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_c_24 : Ref sig .tc := ⟨.hbm, 165, rfl⟩
abbrev main_v113 : Ref sig .tc := ⟨.hbm, 166, rfl⟩
abbrev main_v114 : Ref sig .tc := ⟨.hbm, 167, rfl⟩
abbrev main_c_25 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_26 : Ref sig .tc := ⟨.hbm, 172, rfl⟩
abbrev main_v118 : Ref sig .tc := ⟨.hbm, 173, rfl⟩
abbrev main_v119 : Ref sig .tc := ⟨.hbm, 174, rfl⟩
abbrev main_c_27 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_28 : Ref sig .tc := ⟨.hbm, 183, rfl⟩
abbrev main_v127 : Ref sig .tc := ⟨.hbm, 184, rfl⟩
abbrev main_c_29 : Ref sig .tc := ⟨.hbm, 185, rfl⟩
abbrev main_v128 : Ref sig .tc := ⟨.hbm, 186, rfl⟩
abbrev main_v129 : Ref sig .tc := ⟨.hbm, 187, rfl⟩
abbrev main_c_30 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_31 : Ref sig .tc := ⟨.hbm, 193, rfl⟩
abbrev main_v134 : Ref sig .tc := ⟨.hbm, 194, rfl⟩
abbrev main_v135 : Ref sig .tc := ⟨.hbm, 195, rfl⟩
abbrev main_cst_32 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_call2_cst : Ref sig .tc := ⟨.hbm, 208, rfl⟩
abbrev main_call2_v0 : Ref sig .tc := ⟨.hbm, 209, rfl⟩
abbrev main_call2_v1 : Ref sig .tc := ⟨.hbm, 210, rfl⟩
abbrev main_call2_cst_0 : Ref sig .tc := ⟨.hbm, 211, rfl⟩
abbrev main_call2_v2 : Ref sig .tc := ⟨.hbm, 212, rfl⟩
abbrev main_call2_v3 : Ref sig .tc := ⟨.hbm, 213, rfl⟩
abbrev main_call2_cst_1 : Ref sig .tc := ⟨.hbm, 214, rfl⟩
abbrev main_call2_call0_v0 : Ref sig .tc := ⟨.hbm, 215, rfl⟩
abbrev main_call2_call0_v1 : Ref sig .tc := ⟨.hbm, 216, rfl⟩
abbrev main_call2_v4 : Ref sig .tc := ⟨.hbm, 217, rfl⟩
abbrev main_call2_v5 : Ref sig .tc := ⟨.hbm, 218, rfl⟩
abbrev main_call2_cst_2 : Ref sig .tc := ⟨.hbm, 219, rfl⟩
abbrev main_call2_v6 : Ref sig .tc := ⟨.hbm, 220, rfl⟩
abbrev main_call2_v7 : Ref sig .tc := ⟨.hbm, 221, rfl⟩
abbrev main_v147 : Ref sig .tc := ⟨.hbm, 222, rfl⟩
abbrev main_v148 : Ref sig .tc := ⟨.hbm, 223, rfl⟩
abbrev main_cst_33 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_cst_34 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_c_35 : Ref sig .tc := ⟨.hbm, 234, rfl⟩
abbrev main_c_36 : Ref sig .tc := ⟨.hbm, 235, rfl⟩
abbrev main_call3_v0 : Ref sig .tc := ⟨.hbm, 236, rfl⟩
abbrev main_call3_v1 : Ref sig .tc := ⟨.hbm, 237, rfl⟩
abbrev main_call3_v2 : Ref sig .tc := ⟨.hbm, 238, rfl⟩
abbrev main_call3_v3 : Ref sig .tc := ⟨.hbm, 239, rfl⟩
abbrev main_call3_v4 : Ref sig .tc := ⟨.hbm, 240, rfl⟩
abbrev main_v157 : Ref sig .tc := ⟨.hbm, 241, rfl⟩
abbrev main_v158 : Ref sig .tc := ⟨.hbm, 242, rfl⟩
abbrev main_c_37 : Ref sig .tc := ⟨.hbm, 243, rfl⟩
abbrev main_v159 : Ref sig .tc := ⟨.hbm, 244, rfl⟩
abbrev main_v160 : Ref sig .tc := ⟨.hbm, 245, rfl⟩
abbrev main_c_38 : Ref sig .tc := ⟨.hbm, 246, rfl⟩
abbrev main_c_39 : Ref sig .tc := ⟨.hbm, 247, rfl⟩
abbrev main_call4_v0 : Ref sig .tc := ⟨.hbm, 248, rfl⟩
abbrev main_call4_v1 : Ref sig .tc := ⟨.hbm, 249, rfl⟩
abbrev main_call4_v2 : Ref sig .tc := ⟨.hbm, 250, rfl⟩
abbrev main_call4_v3 : Ref sig .tc := ⟨.hbm, 251, rfl⟩
abbrev main_call4_v4 : Ref sig .tc := ⟨.hbm, 252, rfl⟩
abbrev main_v161 : Ref sig .tc := ⟨.hbm, 253, rfl⟩
abbrev main_v162 : Ref sig .tc := ⟨.hbm, 254, rfl⟩
abbrev main_cst_40 : Ref sig .tc := ⟨.hbm, 255, rfl⟩
abbrev main_v163 : Ref sig .tc := ⟨.hbm, 256, rfl⟩
abbrev main_v164 : Ref sig .tc := ⟨.hbm, 257, rfl⟩
abbrev main_c_41 : Ref sig .tc := ⟨.hbm, 258, rfl⟩
abbrev main_v165 : Ref sig .tc := ⟨.hbm, 259, rfl⟩
abbrev main_v166 : Ref sig .tc := ⟨.hbm, 260, rfl⟩
abbrev main_c_42 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_cst_43 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_c_44 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_c_45 : Ref sig .tc := ⟨.hbm, 293, rfl⟩
abbrev main_v196 : Ref sig .tc := ⟨.hbm, 294, rfl⟩
abbrev main_v197 : Ref sig .tc := ⟨.hbm, 295, rfl⟩
abbrev main_c_46 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_c_47 : Ref sig .tc := ⟨.hbm, 300, rfl⟩
abbrev main_v201 : Ref sig .tc := ⟨.hbm, 301, rfl⟩
abbrev main_v202 : Ref sig .tc := ⟨.hbm, 302, rfl⟩
abbrev main_c_48 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_c_49 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_c_50 : Ref sig .tc := ⟨.hbm, 319, rfl⟩
abbrev main_v217 : Ref sig .tc := ⟨.hbm, 320, rfl⟩
abbrev main_v218 : Ref sig .tc := ⟨.hbm, 321, rfl⟩
abbrev main_c_51 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_c_52 : Ref sig .tc := ⟨.hbm, 326, rfl⟩
abbrev main_v222 : Ref sig .tc := ⟨.hbm, 327, rfl⟩
abbrev main_v223 : Ref sig .tc := ⟨.hbm, 328, rfl⟩
abbrev main_c_53 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_c_54 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_c_55 : Ref sig .tc := ⟨.hbm, 353, rfl⟩
abbrev main_v246 : Ref sig .tc := ⟨.hbm, 354, rfl⟩
abbrev main_v247 : Ref sig .tc := ⟨.hbm, 355, rfl⟩
abbrev main_c_56 : Ref sig .tc := ⟨.hbm, 356, rfl⟩
abbrev main_v248 : Ref sig .tc := ⟨.hbm, 357, rfl⟩
abbrev main_v249 : Ref sig .tc := ⟨.hbm, 358, rfl⟩
abbrev main_v250 : Ref sig .tc := ⟨.hbm, 359, rfl⟩
abbrev main_c_57 : Ref sig .tc := ⟨.hbm, 360, rfl⟩
abbrev main_v251 : Ref sig .tc := ⟨.hbm, 361, rfl⟩
abbrev main_v252 : Ref sig .tc := ⟨.hbm, 362, rfl⟩
abbrev main_c_58 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_c_59 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_c_60 : Ref sig .tc := ⟨.hbm, 379, rfl⟩
abbrev main_v267 : Ref sig .tc := ⟨.hbm, 380, rfl⟩
abbrev main_v268 : Ref sig .tc := ⟨.hbm, 381, rfl⟩
abbrev main_c_61 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_c_62 : Ref sig .tc := ⟨.hbm, 386, rfl⟩
abbrev main_v272 : Ref sig .tc := ⟨.hbm, 387, rfl⟩
abbrev main_v273 : Ref sig .tc := ⟨.hbm, 388, rfl⟩
abbrev main_c_63 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_cst_64 : Ref sig .tc := ⟨.hbm, 397, rfl⟩
abbrev main_v281 : Ref sig .tc := ⟨.hbm, 398, rfl⟩
abbrev main_c_65 : Ref sig .tc := ⟨.hbm, 399, rfl⟩
abbrev main_v282 : Ref sig .tc := ⟨.hbm, 400, rfl⟩
abbrev main_v283 : Ref sig .tc := ⟨.hbm, 401, rfl⟩
abbrev main_c_66 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_cst_67 : Ref sig .tc := ⟨.hbm, 407, rfl⟩
abbrev main_v288 : Ref sig .tc := ⟨.hbm, 408, rfl⟩
abbrev main_v289 : Ref sig .tc := ⟨.hbm, 409, rfl⟩
abbrev main_cst_68 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_v293 : Ref sig .tc := ⟨.hbm, 414, rfl⟩
abbrev main_v294 : Ref sig .tc := ⟨.hbm, 415, rfl⟩
abbrev main_v295 : Ref sig .tc := ⟨.hbm, 416, rfl⟩
abbrev main_v296 : Ref sig .tc := ⟨.hbm, 417, rfl⟩
abbrev main_v297 : Ref sig .tc := ⟨.hbm, 418, rfl⟩
abbrev main_v298 : Ref sig .tc := ⟨.hbm, 419, rfl⟩
abbrev main_v299 : Ref sig .tc := ⟨.hbm, 420, rfl⟩
abbrev main_v300 : Ref sig .tc := ⟨.hbm, 421, rfl⟩
abbrev main_call5_cst : Ref sig .tc := ⟨.hbm, 422, rfl⟩
abbrev main_call5_v0 : Ref sig .tc := ⟨.hbm, 423, rfl⟩
abbrev main_call5_v1 : Ref sig .tc := ⟨.hbm, 424, rfl⟩
abbrev main_call5_cst_0 : Ref sig .tc := ⟨.hbm, 425, rfl⟩
abbrev main_call5_v2 : Ref sig .tc := ⟨.hbm, 426, rfl⟩
abbrev main_call5_v3 : Ref sig .tc := ⟨.hbm, 427, rfl⟩
abbrev main_call5_cst_1 : Ref sig .tc := ⟨.hbm, 428, rfl⟩
abbrev main_call5_call0_v0 : Ref sig .tc := ⟨.hbm, 429, rfl⟩
abbrev main_call5_call0_v1 : Ref sig .tc := ⟨.hbm, 430, rfl⟩
abbrev main_call5_v4 : Ref sig .tc := ⟨.hbm, 431, rfl⟩
abbrev main_call5_v5 : Ref sig .tc := ⟨.hbm, 432, rfl⟩
abbrev main_call5_cst_2 : Ref sig .tc := ⟨.hbm, 433, rfl⟩
abbrev main_call5_v6 : Ref sig .tc := ⟨.hbm, 434, rfl⟩
abbrev main_call5_v7 : Ref sig .tc := ⟨.hbm, 435, rfl⟩
abbrev main_v301 : Ref sig .tc := ⟨.hbm, 436, rfl⟩
abbrev main_v302 : Ref sig .tc := ⟨.hbm, 437, rfl⟩
abbrev main_cst_69 : Ref sig .tc := ⟨.hbm, 438, rfl⟩
abbrev main_v303 : Ref sig .tc := ⟨.hbm, 439, rfl⟩
abbrev main_cst_70 : Ref sig .tc := ⟨.hbm, 440, rfl⟩
abbrev main_v304 : Ref sig .tc := ⟨.hbm, 441, rfl⟩
abbrev main_call6_call0_cst : Ref sig .tc := ⟨.hbm, 442, rfl⟩
abbrev main_call6_call0_v0 : Ref sig .tc := ⟨.hbm, 443, rfl⟩
abbrev main_v305 : Ref sig .tc := ⟨.hbm, 444, rfl⟩
abbrev main_v306 : Ref sig .tc := ⟨.hbm, 445, rfl⟩
abbrev main_v307 : Ref sig .tc := ⟨.hbm, 446, rfl⟩
abbrev main_c_71 : Ref sig .tc := ⟨.hbm, 447, rfl⟩
abbrev main_v308 : Ref sig .tc := ⟨.hbm, 448, rfl⟩
abbrev main_v309 : Ref sig .tc := ⟨.hbm, 449, rfl⟩
abbrev main_c_72 : Ref sig .tc := ⟨.hbm, 450, rfl⟩
abbrev main_v310 : Ref sig .tc := ⟨.hbm, 451, rfl⟩
abbrev main_v311 : Ref sig .tc := ⟨.hbm, 452, rfl⟩
abbrev main_v312 : Ref sig .tc := ⟨.hbm, 453, rfl⟩
abbrev main_v313 : Ref sig .tc := ⟨.hbm, 454, rfl⟩
abbrev main_v314 : Ref sig .tc := ⟨.hbm, 455, rfl⟩
abbrev main_v315 : Ref sig .tc := ⟨.hbm, 456, rfl⟩
abbrev main_c_73 : Ref sig .tc := ⟨.hbm, 457, rfl⟩
abbrev main_v316 : Ref sig .tc := ⟨.hbm, 458, rfl⟩
abbrev main_v317 : Ref sig .tc := ⟨.hbm, 459, rfl⟩
abbrev main_c_74 : Ref sig .tc := ⟨.hbm, 460, rfl⟩
abbrev main_v318 : Ref sig .tc := ⟨.hbm, 461, rfl⟩
abbrev main_v319 : Ref sig .tc := ⟨.hbm, 462, rfl⟩
abbrev main_v320 : Ref sig .tc := ⟨.hbm, 463, rfl⟩
abbrev main_v321 : Ref sig .tc := ⟨.hbm, 464, rfl⟩
abbrev main_v322 : Ref sig .tc := ⟨.hbm, 465, rfl⟩
abbrev main_v323 : Ref sig .tc := ⟨.hbm, 466, rfl⟩
abbrev main_v324 : Ref sig .tc := ⟨.hbm, 467, rfl⟩
abbrev main_v325 : Ref sig .tc := ⟨.hbm, 468, rfl⟩
abbrev main_v326 : Ref sig .tc := ⟨.hbm, 469, rfl⟩
abbrev main_v327 : Ref sig .tc := ⟨.hbm, 470, rfl⟩
abbrev main_cst_75 : Ref sig .tc := ⟨.hbm, 471, rfl⟩
abbrev main_v328 : Ref sig .tc := ⟨.hbm, 472, rfl⟩
abbrev main_v329 : Ref sig .tc := ⟨.hbm, 473, rfl⟩
abbrev main_v330 : Ref sig .tc := ⟨.hbm, 474, rfl⟩
abbrev main_v331 : Ref sig .tc := ⟨.hbm, 475, rfl⟩
abbrev main_v332 : Ref sig .tc := ⟨.hbm, 476, rfl⟩
abbrev main_v333 : Ref sig .tc := ⟨.hbm, 477, rfl⟩
abbrev main_v334 : Ref sig .tc := ⟨.hbm, 478, rfl⟩
abbrev main_v335 : Ref sig .tc := ⟨.hbm, 479, rfl⟩
abbrev main_v336 : Ref sig .tc := ⟨.hbm, 480, rfl⟩
abbrev main_call7_cst : Ref sig .tc := ⟨.hbm, 481, rfl⟩
abbrev main_call7_v0 : Ref sig .tc := ⟨.hbm, 482, rfl⟩
abbrev main_call7_v1 : Ref sig .tc := ⟨.hbm, 483, rfl⟩
abbrev main_call7_cst_0 : Ref sig .tc := ⟨.hbm, 484, rfl⟩
abbrev main_call7_v2 : Ref sig .tc := ⟨.hbm, 485, rfl⟩
abbrev main_call7_v3 : Ref sig .tc := ⟨.hbm, 486, rfl⟩
abbrev main_call7_cst_1 : Ref sig .tc := ⟨.hbm, 487, rfl⟩
abbrev main_call7_call0_v0 : Ref sig .tc := ⟨.hbm, 488, rfl⟩
abbrev main_call7_call0_v1 : Ref sig .tc := ⟨.hbm, 489, rfl⟩
abbrev main_call7_v4 : Ref sig .tc := ⟨.hbm, 490, rfl⟩
abbrev main_call7_v5 : Ref sig .tc := ⟨.hbm, 491, rfl⟩
abbrev main_call7_cst_2 : Ref sig .tc := ⟨.hbm, 492, rfl⟩
abbrev main_call7_v6 : Ref sig .tc := ⟨.hbm, 493, rfl⟩
abbrev main_call7_v7 : Ref sig .tc := ⟨.hbm, 494, rfl⟩
abbrev main_v337 : Ref sig .tc := ⟨.hbm, 495, rfl⟩
abbrev main_v338 : Ref sig .tc := ⟨.hbm, 496, rfl⟩
abbrev main_v339 : Ref sig .tc := ⟨.hbm, 497, rfl⟩
abbrev main_v340 : Ref sig .tc := ⟨.hbm, 498, rfl⟩
abbrev main_v341 : Ref sig .tc := ⟨.hbm, 499, rfl⟩
abbrev main_call8_cst : Ref sig .tc := ⟨.hbm, 500, rfl⟩
abbrev main_call8_v0 : Ref sig .tc := ⟨.hbm, 501, rfl⟩
abbrev main_call8_cst_0 : Ref sig .tc := ⟨.hbm, 502, rfl⟩
abbrev main_call8_v1 : Ref sig .tc := ⟨.hbm, 503, rfl⟩
abbrev main_call8_v2 : Ref sig .tc := ⟨.hbm, 504, rfl⟩
abbrev main_call8_v3 : Ref sig .tc := ⟨.hbm, 505, rfl⟩
abbrev main_call8_v4 : Ref sig .tc := ⟨.hbm, 506, rfl⟩
abbrev main_call8_v5 : Ref sig .tc := ⟨.hbm, 507, rfl⟩
abbrev main_call8_v6 : Ref sig .tc := ⟨.hbm, 508, rfl⟩
abbrev main_call8_cst_1 : Ref sig .tc := ⟨.hbm, 509, rfl⟩
abbrev main_call8_v7 : Ref sig .tc := ⟨.hbm, 510, rfl⟩
abbrev main_call8_v8 : Ref sig .tc := ⟨.hbm, 511, rfl⟩
abbrev main_call8_v9 : Ref sig .tc := ⟨.hbm, 512, rfl⟩
abbrev main_call8_v10 : Ref sig .tc := ⟨.hbm, 513, rfl⟩
abbrev main_v342 : Ref sig .tc := ⟨.hbm, 514, rfl⟩

abbrev nD : Nat := 1
abbrev τ : Topo := Topo.v7x

variable {F : FTy → Type} [FloatOps F]
-- ==== Proof.Host.lean ====
/- The host operations the kernel runs before its one on-chip region, read against the reference's: both programs
   begin with the same two spline convolutions, so every buffer the kernel's host part names holds what the
   reference's buffer of that name holds. -/
module

public import proofs.«01_k».proof.Proof.Gen.KernelIdeal.Launch
public import proofs.«01_k».proof.Proof.Gen.ReferenceIdeal.Run
public import Idealize.ShloMosaic.Lib.StableHlo.RunRead
public import Idealize.ShloMosaic.PureOps.Ideal

@[expose] public section

set_option maxRecDepth 8192

noncomputable section

namespace Cert.Proof.Host

open Idealize.ShloMosaic Idealize.ShloMosaic.StableHlo Idealize.SL.Sem
open Cert.KernelIdeal Cert.KernelIdeal.Gen

/-- The host operations before the region, in order. -/
def pre : List (HloOp τ sig (Elt Ideal)) :=
  List.flatten [hostOps0, hostOps0_1, hostOps0_2, hostOps0_3, hostOps0_4, hostOps0_5, hostOps0_6, hostOps0_7,
    hostOps0_8, hostOps0_9, hostOps0_10, hostOps0_11, hostOps0_12]

/-- The buffer each of those operations writes. -/
def written : List (Ref sig .tc) :=
  [main_v0, main_v1, main_v2, main_v3, main_cst, main_v4, main_v5, main_v6, main_c, main_c_0, main_call0_v0,
   main_call0_v1, main_call0_v2, main_call0_v3, main_call0_v4, main_v7, main_v8, main_c_1, main_v9, main_v10,
   main_c_2, main_c_3, main_call1_v0, main_call1_v1, main_call1_v2, main_call1_v3, main_call1_v4, main_v11, main_v12,
   main_cst_4, main_v13, main_v14, main_c_5, main_v15, main_v16, main_c_6, main_v17, main_v18, main_v19, main_v20,
   main_v21, main_cst_7, main_v22, main_v23, main_v24, main_v25, main_v26, main_v27, main_v28, main_v29, main_v30,
   main_v31, main_v32, main_v33, main_v34, main_v35, main_v36, main_v37, main_v38, main_c_8, main_v39, main_v40,
   main_v41, main_v42, main_v43, main_v44, main_c_9, main_v45, main_v46, main_c_10, main_v47, main_v48, main_v49,
   main_c_11, main_v50, main_v51, main_c_12, main_v52, main_v53, main_v54, main_v55, main_v56, main_v57, main_v58,
   main_c_13, main_v59, main_v60, main_v61, main_v62, main_v63, main_v64, main_c_14, main_v65, main_v66, main_c_15,
   main_v67, main_v68, main_v69, main_c_16, main_v70, main_v71, main_c_17, main_v72, main_v73, main_v74, main_v75,
   main_v76, main_v77, main_v78, main_v79, main_v80, main_v81, main_v82, main_v83, main_v84, main_v85, main_v86,
   main_c_18, main_v87, main_v88, main_v89, main_v90, main_v91, main_v92, main_c_19, main_v93, main_v94, main_c_20,
   main_v95, main_v96, main_v97, main_c_21, main_v98, main_v99, main_c_22, main_v100, main_v101, main_v102,
   main_v103, main_v104, main_v105, main_v106, main_c_23, main_v107, main_v108, main_v109, main_v110, main_v111,
   main_v112, main_c_24, main_v113, main_v114, main_c_25, main_v115, main_v116, main_v117, main_c_26, main_v118,
   main_v119, main_c_27, main_v120, main_v121, main_v122, main_v123, main_v124, main_v125, main_v126, main_cst_28,
   main_v127, main_c_29, main_v128, main_v129, main_c_30, main_v130, main_v131, main_v132, main_v133, main_cst_31,
   main_v134, main_v135, main_cst_32, main_v136, main_v137, main_v138, main_v139, main_v140, main_v141, main_v142,
   main_v143, main_v144, main_v145, main_v146, main_call2_cst, main_call2_v0, main_call2_v1, main_call2_cst_0,
   main_call2_v2, main_call2_v3, main_call2_cst_1, main_call2_call0_v0, main_call2_call0_v1, main_call2_v4,
   main_call2_v5, main_call2_cst_2, main_call2_v6, main_call2_v7, main_v147, main_v148, main_cst_33, main_v149,
   main_v150, main_v151, main_v152, main_v153, main_cst_34, main_v154, main_v155, main_v156, main_c_35, main_c_36,
   main_call3_v0, main_call3_v1, main_call3_v2, main_call3_v3, main_call3_v4, main_v157, main_v158, main_c_37,
   main_v159, main_v160, main_c_38, main_c_39, main_call4_v0, main_call4_v1, main_call4_v2, main_call4_v3,
   main_call4_v4, main_v161, main_v162, main_cst_40, main_v163, main_v164, main_c_41, main_v165, main_v166,
   main_c_42, main_v167, main_v168, main_v169, main_v170, main_v171, main_cst_43, main_v172, main_v173, main_v174,
   main_v175, main_v176, main_v177, main_v178, main_v179, main_v180, main_v181, main_v182, main_v183, main_v184,
   main_v185, main_v186, main_v187, main_v188, main_c_44, main_v189, main_v190, main_v191, main_v192, main_v193,
   main_v194, main_v195, main_c_45, main_v196, main_v197, main_c_46, main_v198, main_v199, main_v200, main_c_47,
   main_v201, main_v202, main_c_48, main_v203, main_v204, main_v205, main_v206, main_v207, main_v208, main_v209,
   main_c_49, main_v210, main_v211, main_v212, main_v213, main_v214, main_v215, main_v216, main_c_50, main_v217,
   main_v218, main_c_51, main_v219, main_v220, main_v221, main_c_52, main_v222, main_v223, main_c_53, main_v224,
   main_v225, main_v226, main_v227, main_v228, main_v229, main_v230, main_v231, main_v232, main_v233, main_v234,
   main_v235, main_v236, main_v237, main_v238, main_c_54, main_v239, main_v240, main_v241, main_v242, main_v243,
   main_v244, main_v245, main_c_55, main_v246, main_v247, main_c_56, main_v248, main_v249, main_v250, main_c_57,
   main_v251, main_v252, main_c_58, main_v253, main_v254, main_v255, main_v256, main_v257, main_v258, main_v259,
   main_c_59, main_v260, main_v261, main_v262, main_v263, main_v264, main_v265, main_v266, main_c_60, main_v267,
   main_v268, main_c_61, main_v269, main_v270, main_v271, main_c_62, main_v272, main_v273, main_c_63, main_v274,
   main_v275, main_v276, main_v277, main_v278, main_v279, main_v280, main_cst_64, main_v281, main_c_65, main_v282,
   main_v283, main_c_66, main_v284, main_v285, main_v286, main_v287, main_cst_67, main_v288, main_v289, main_cst_68,
   main_v290, main_v291, main_v292, main_v293, main_v294, main_v295, main_v296, main_v297, main_v298, main_v299,
   main_v300, main_call5_cst, main_call5_v0, main_call5_v1, main_call5_cst_0, main_call5_v2, main_call5_v3,
   main_call5_cst_1, main_call5_call0_v0, main_call5_call0_v1, main_call5_v4, main_call5_v5, main_call5_cst_2,
   main_call5_v6, main_call5_v7, main_v301, main_v302, main_cst_69, main_v303, main_v304, main_v305]

theorem pre_writes : pre.map HloOp.writes = written.map fun w => {Proc.devRef (τ := τ) .tc w} := rfl

/-- A buffer none of the operations from position `i` on writes is settled there. -/
theorem settled {n i : ℕ} {r : Ref sig .tc} (hi : i ≤ n) (hr : r ∉ written.drop i)
    (V : Valuation τ sig (Elt Ideal)) :
    upto pre V n (Proc.devRef .tc r) = upto pre V i (Proc.devRef .tc r) := by
  have hcut : pre.take n = pre.take i ++ (pre.drop i).take (n - i) := by
    have h := List.take_append_drop i (pre.take n)
    rw [List.take_take, Nat.min_eq_left hi, List.drop_take] at h
    exact h.symm
  have happ : ∀ (l₁ l₂ : List (HloOp τ sig (Elt Ideal))) (W : Valuation τ sig (Elt Ideal)),
      after (l₁ ++ l₂) W = after l₂ (after l₁ W) := by
    intro l₁
    induction l₁ with
    | nil => intro l₂ W; rfl
    | cons op l ih => intro l₂ W; exact ih l₂ _
  rw [upto, hcut, happ]
  refine after_unwritten ((written.drop i).take (n - i)) ?_ (fun h => hr (List.mem_of_mem_take h)) _
  rw [List.map_take, List.map_drop, pre_writes, ← List.map_drop, ← List.map_take]

/-- A concatenation of two arrays is rewritten through its operands. -/
@[local congr] theorem concatenate_pair {α : Type} {t s₁ s₂ : Shape} {d : Fin t.rank} {x x' : s₁.Idx → α} {y y' : s₂.Idx → α}
    {hc : Shape.Concatenates [s₁, s₂] t d} (hx : x = x') (hy : y = y') :
    concatenate t d [⟨s₁, x⟩, ⟨s₂, y⟩] hc = concatenate t d [⟨s₁, x'⟩, ⟨s₂, y'⟩] hc := by subst hx hy; rfl

/-- The two programs' argument arrays are the same. -/
structure Agree (V : Valuation τ sig (Elt Ideal))
    (W : Valuation ReferenceIdeal.τ ReferenceIdeal.sig (Elt Ideal)) : Prop where
  arg0 : V (no_index (Proc.devRef .tc main_arg0)) = W (Proc.devRef .tc ReferenceIdeal.main_arg0)
  arg1 : V (no_index (Proc.devRef .tc main_arg1)) = W (Proc.devRef .tc ReferenceIdeal.main_arg1)
  arg2 : V (no_index (Proc.devRef .tc main_arg2)) = W (Proc.devRef .tc ReferenceIdeal.main_arg2)
  arg3 : V (no_index (Proc.devRef .tc main_arg3)) = W (Proc.devRef .tc ReferenceIdeal.main_arg3)
  arg4 : V (no_index (Proc.devRef .tc main_arg4)) = W (Proc.devRef .tc ReferenceIdeal.main_arg4)
  arg5 : V (no_index (Proc.devRef .tc main_arg5)) = W (Proc.devRef .tc ReferenceIdeal.main_arg5)
  arg6 : V (no_index (Proc.devRef .tc main_arg6)) = W (Proc.devRef .tc ReferenceIdeal.main_arg6)
  arg7 : V (no_index (Proc.devRef .tc main_arg7)) = W (Proc.devRef .tc ReferenceIdeal.main_arg7)
  arg8 : V (no_index (Proc.devRef .tc main_arg8)) = W (Proc.devRef .tc ReferenceIdeal.main_arg8)
  arg9 : V (no_index (Proc.devRef .tc main_arg9)) = W (Proc.devRef .tc ReferenceIdeal.main_arg9)
  arg10 : V (no_index (Proc.devRef .tc main_arg10)) = W (Proc.devRef .tc ReferenceIdeal.main_arg10)
  arg11 : V (no_index (Proc.devRef .tc main_arg11)) = W (Proc.devRef .tc ReferenceIdeal.main_arg11)
  arg12 : V (no_index (Proc.devRef .tc main_arg12)) = W (Proc.devRef .tc ReferenceIdeal.main_arg12)
  arg13 : V (no_index (Proc.devRef .tc main_arg13)) = W (Proc.devRef .tc ReferenceIdeal.main_arg13)
  arg14 : V (no_index (Proc.devRef .tc main_arg14)) = W (Proc.devRef .tc ReferenceIdeal.main_arg14)
  arg15 : V (no_index (Proc.devRef .tc main_arg15)) = W (Proc.devRef .tc ReferenceIdeal.main_arg15)

variable {V : Valuation τ sig (Elt Ideal)} {W : Valuation ReferenceIdeal.τ ReferenceIdeal.sig (Elt Ideal)}

theorem host_v1 (h : Agree V W) {n : ℕ} (hn : 2 ≤ n) :
    upto pre V n (no_index (Proc.devRef .tc main_v1)) = ReferenceIdeal.Value.res_main_v1 W := by
  rw [settled hn (by decide)]
  after_reads_simp [TRef.nullary, TRef.unary, TRef.binary, TRef.ternary, TRef.toBuf, TRef.ofBuf, cast_eq, h.arg1]
  rfl

theorem host_v3 (h : Agree V W) {n : ℕ} (hn : 4 ≤ n) :
    upto pre V n (no_index (Proc.devRef .tc main_v3)) = ReferenceIdeal.Value.res_main_v3 W := by
  rw [settled hn (by decide)]
  after_reads_simp [TRef.nullary, TRef.unary, TRef.binary, TRef.ternary, TRef.toBuf, TRef.ofBuf, cast_eq, h.arg1]
  rfl

theorem host_v5 (h : Agree V W) {n : ℕ} (hn : 7 ≤ n) :
    upto pre V n (no_index (Proc.devRef .tc main_v5)) = ReferenceIdeal.Value.res_main_v5 W := by
  rw [settled hn (by decide)]
  after_reads_simp [TRef.nullary, TRef.unary, TRef.binary, TRef.ternary, TRef.toBuf, TRef.ofBuf, cast_eq, h.arg2]
  rfl

theorem host_v6 (h : Agree V W) {n : ℕ} (hn : 8 ≤ n) :
    upto pre V n (no_index (Proc.devRef .tc main_v6)) = ReferenceIdeal.Value.res_main_v6 W := by
  rw [settled hn (by decide)]
  after_reads_simp [TRef.nullary, TRef.unary, TRef.binary, TRef.ternary, TRef.toBuf, TRef.ofBuf, cast_eq, host_v5 h]
  rfl

theorem host_v8 (h : Agree V W) {n : ℕ} (hn : 17 ≤ n) :
    upto pre V n (no_index (Proc.devRef .tc main_v8)) = ReferenceIdeal.Value.res_main_v8 W := by
  rw [settled hn (by decide)]
  after_reads_simp [TRef.nullary, TRef.unary, TRef.binary, TRef.ternary, TRef.toBuf, TRef.ofBuf, cast_eq, host_v6 h]
  rfl

theorem host_v11 (h : Agree V W) {n : ℕ} (hn : 28 ≤ n) :
    upto pre V n (no_index (Proc.devRef .tc main_v11)) = ReferenceIdeal.Value.res_main_v11 W := by
  rw [settled hn (by decide)]
  after_reads_simp [TRef.nullary, TRef.unary, TRef.binary, TRef.ternary, TRef.toBuf, TRef.ofBuf, cast_eq, host_v8 h]
  rfl

theorem host_v12 (h : Agree V W) {n : ℕ} (hn : 29 ≤ n) :
    upto pre V n (no_index (Proc.devRef .tc main_v12)) = ReferenceIdeal.Value.res_main_v12 W := by
  rw [settled hn (by decide)]
  after_reads_simp [TRef.nullary, TRef.unary, TRef.binary, TRef.ternary, TRef.toBuf, TRef.ofBuf, cast_eq, host_v5 h, host_v6 h]
  rfl

theorem host_v14 (h : Agree V W) {n : ℕ} (hn : 32 ≤ n) :
    upto pre V n (no_index (Proc.devRef .tc main_v14)) = ReferenceIdeal.Value.res_main_v14 W := by
  rw [settled hn (by decide)]
  after_reads_simp [TRef.nullary, TRef.unary, TRef.binary, TRef.ternary, TRef.toBuf, TRef.ofBuf, cast_eq, host_v12 h]
  rfl

theorem host_v21 (h : Agree V W) {n : ℕ} (hn : 41 ≤ n) :
    upto pre V n (no_index (Proc.devRef .tc main_v21)) = ReferenceIdeal.Value.res_main_v21 W := by
  rw [settled hn (by decide)]
  after_reads_simp [TRef.nullary, TRef.unary, TRef.binary, TRef.ternary, TRef.toBuf, TRef.ofBuf, cast_eq, host_v1 h, h.arg0]
  rfl

theorem host_v24 (h : Agree V W) {n : ℕ} (hn : 45 ≤ n) :
    upto pre V n (no_index (Proc.devRef .tc main_v24)) = ReferenceIdeal.Value.res_main_v24 W := by
  rw [settled hn (by decide)]
  after_reads_simp [TRef.nullary, TRef.unary, TRef.binary, TRef.ternary, TRef.toBuf, TRef.ofBuf, cast_eq, host_v8 h]
  rfl

theorem host_v26 (h : Agree V W) {n : ℕ} (hn : 47 ≤ n) :
    upto pre V n (no_index (Proc.devRef .tc main_v26)) = ReferenceIdeal.Value.res_main_v26 W := by
  rw [settled hn (by decide)]
  after_reads_simp [TRef.nullary, TRef.unary, TRef.binary, TRef.ternary, TRef.toBuf, TRef.ofBuf, cast_eq, host_v14 h]
  rfl

theorem host_v28 (h : Agree V W) {n : ℕ} (hn : 49 ≤ n) :
    upto pre V n (no_index (Proc.devRef .tc main_v28)) = ReferenceIdeal.Value.res_main_v28 W := by
  rw [settled hn (by decide)]
  after_reads_simp [TRef.nullary, TRef.unary, TRef.binary, TRef.ternary, TRef.toBuf, TRef.ofBuf, cast_eq, host_v11 h]
  rfl

theorem host_v30 (h : Agree V W) {n : ℕ} (hn : 51 ≤ n) :
    upto pre V n (no_index (Proc.devRef .tc main_v30)) = ReferenceIdeal.Value.res_main_v30 W := by
  rw [settled hn (by decide)]
  after_reads_simp [TRef.nullary, TRef.unary, TRef.binary, TRef.ternary, TRef.toBuf, TRef.ofBuf, cast_eq, host_v12 h]
  rfl

theorem host_v41 (h : Agree V W) {n : ℕ} (hn : 63 ≤ n) :
    upto pre V n (no_index (Proc.devRef .tc main_v41)) = ReferenceIdeal.Value.res_main_v41 W := by
  rw [settled hn (by decide)]
  after_reads_simp [TRef.nullary, TRef.unary, TRef.binary, TRef.ternary, TRef.toBuf, TRef.ofBuf, cast_eq, host_v24 h, host_v8 h]
  rfl

theorem host_v61 (h : Agree V W) {n : ℕ} (hn : 88 ≤ n) :
    upto pre V n (no_index (Proc.devRef .tc main_v61)) = ReferenceIdeal.Value.res_main_v61 W := by
  rw [settled hn (by decide)]
  after_reads_simp [TRef.nullary, TRef.unary, TRef.binary, TRef.ternary, TRef.toBuf, TRef.ofBuf, cast_eq, host_v24 h, host_v11 h]
  rfl

theorem host_v89 (h : Agree V W) {n : ℕ} (hn : 121 ≤ n) :
    upto pre V n (no_index (Proc.devRef .tc main_v89)) = ReferenceIdeal.Value.res_main_v89 W := by
  rw [settled hn (by decide)]
  after_reads_simp [TRef.nullary, TRef.unary, TRef.binary, TRef.ternary, TRef.toBuf, TRef.ofBuf, cast_eq, host_v28 h, host_v8 h]
  rfl

theorem host_v109 (h : Agree V W) {n : ℕ} (hn : 146 ≤ n) :
    upto pre V n (no_index (Proc.devRef .tc main_v109)) = ReferenceIdeal.Value.res_main_v109 W := by
  rw [settled hn (by decide)]
  after_reads_simp [TRef.nullary, TRef.unary, TRef.binary, TRef.ternary, TRef.toBuf, TRef.ofBuf, cast_eq, host_v28 h, host_v11 h]
  rfl

theorem host_v126 (h : Agree V W) {n : ℕ} (hn : 167 ≤ n) :
    upto pre V n (no_index (Proc.devRef .tc main_v126)) = ReferenceIdeal.Value.res_main_v126 W := by
  rw [settled hn (by decide)]
  after_reads_simp [TRef.nullary, TRef.unary, TRef.binary, TRef.ternary, TRef.toBuf, TRef.ofBuf, cast_eq, host_v41 h, host_v3 h, host_v26 h, host_v14 h, host_v21 h, host_v61 h, host_v12 h, host_v89 h, host_v30 h, host_v109 h]
  rfl

theorem host_v146 (h : Agree V W) {n : ℕ} (hn : 192 ≤ n) :
    upto pre V n (no_index (Proc.devRef .tc main_v146)) = ReferenceIdeal.Value.res_main_v146 W := by
  rw [settled hn (by decide)]
  after_reads_simp [TRef.nullary, TRef.unary, TRef.binary, TRef.ternary, TRef.toBuf, TRef.ofBuf, cast_eq, host_v126 h, host_v3 h, h.arg6, h.arg0, h.arg7, h.arg8]
  rfl

theorem host_v149 (h : Agree V W) {n : ℕ} (hn : 210 ≤ n) :
    upto pre V n (no_index (Proc.devRef .tc main_v149)) = ReferenceIdeal.Value.res_main_v149 W := by
  rw [settled hn (by decide)]
  after_reads_simp [TRef.nullary, TRef.unary, TRef.binary, TRef.ternary, TRef.toBuf, TRef.ofBuf, cast_eq, host_v146 h]
  rfl

theorem host_v151 (h : Agree V W) {n : ℕ} (hn : 212 ≤ n) :
    upto pre V n (no_index (Proc.devRef .tc main_v151)) = ReferenceIdeal.Value.res_main_v151 W := by
  rw [settled hn (by decide)]
  after_reads_simp [TRef.nullary, TRef.unary, TRef.binary, TRef.ternary, TRef.toBuf, TRef.ofBuf, cast_eq, h.arg3]
  rfl

theorem host_v153 (h : Agree V W) {n : ℕ} (hn : 214 ≤ n) :
    upto pre V n (no_index (Proc.devRef .tc main_v153)) = ReferenceIdeal.Value.res_main_v153 W := by
  rw [settled hn (by decide)]
  after_reads_simp [TRef.nullary, TRef.unary, TRef.binary, TRef.ternary, TRef.toBuf, TRef.ofBuf, cast_eq, h.arg3]
  rfl

theorem host_v155 (h : Agree V W) {n : ℕ} (hn : 217 ≤ n) :
    upto pre V n (no_index (Proc.devRef .tc main_v155)) = ReferenceIdeal.Value.res_main_v155 W := by
  rw [settled hn (by decide)]
  after_reads_simp [TRef.nullary, TRef.unary, TRef.binary, TRef.ternary, TRef.toBuf, TRef.ofBuf, cast_eq, h.arg4]
  rfl

theorem host_v156 (h : Agree V W) {n : ℕ} (hn : 218 ≤ n) :
    upto pre V n (no_index (Proc.devRef .tc main_v156)) = ReferenceIdeal.Value.res_main_v156 W := by
  rw [settled hn (by decide)]
  after_reads_simp [TRef.nullary, TRef.unary, TRef.binary, TRef.ternary, TRef.toBuf, TRef.ofBuf, cast_eq, host_v155 h]
  rfl

theorem host_v158 (h : Agree V W) {n : ℕ} (hn : 227 ≤ n) :
    upto pre V n (no_index (Proc.devRef .tc main_v158)) = ReferenceIdeal.Value.res_main_v158 W := by
  rw [settled hn (by decide)]
  after_reads_simp [TRef.nullary, TRef.unary, TRef.binary, TRef.ternary, TRef.toBuf, TRef.ofBuf, cast_eq, host_v156 h]
  rfl

theorem host_v161 (h : Agree V W) {n : ℕ} (hn : 238 ≤ n) :
    upto pre V n (no_index (Proc.devRef .tc main_v161)) = ReferenceIdeal.Value.res_main_v161 W := by
  rw [settled hn (by decide)]
  after_reads_simp [TRef.nullary, TRef.unary, TRef.binary, TRef.ternary, TRef.toBuf, TRef.ofBuf, cast_eq, host_v158 h]
  rfl

theorem host_v162 (h : Agree V W) {n : ℕ} (hn : 239 ≤ n) :
    upto pre V n (no_index (Proc.devRef .tc main_v162)) = ReferenceIdeal.Value.res_main_v162 W := by
  rw [settled hn (by decide)]
  after_reads_simp [TRef.nullary, TRef.unary, TRef.binary, TRef.ternary, TRef.toBuf, TRef.ofBuf, cast_eq, host_v155 h, host_v156 h]
  rfl

theorem host_v164 (h : Agree V W) {n : ℕ} (hn : 242 ≤ n) :
    upto pre V n (no_index (Proc.devRef .tc main_v164)) = ReferenceIdeal.Value.res_main_v164 W := by
  rw [settled hn (by decide)]
  after_reads_simp [TRef.nullary, TRef.unary, TRef.binary, TRef.ternary, TRef.toBuf, TRef.ofBuf, cast_eq, host_v162 h]
  rfl

theorem host_v171 (h : Agree V W) {n : ℕ} (hn : 251 ≤ n) :
    upto pre V n (no_index (Proc.devRef .tc main_v171)) = ReferenceIdeal.Value.res_main_v171 W := by
  rw [settled hn (by decide)]
  after_reads_simp [TRef.nullary, TRef.unary, TRef.binary, TRef.ternary, TRef.toBuf, TRef.ofBuf, cast_eq, host_v149 h, host_v151 h]
  rfl

theorem host_v174 (h : Agree V W) {n : ℕ} (hn : 255 ≤ n) :
    upto pre V n (no_index (Proc.devRef .tc main_v174)) = ReferenceIdeal.Value.res_main_v174 W := by
  rw [settled hn (by decide)]
  after_reads_simp [TRef.nullary, TRef.unary, TRef.binary, TRef.ternary, TRef.toBuf, TRef.ofBuf, cast_eq, host_v158 h]
  rfl

theorem host_v176 (h : Agree V W) {n : ℕ} (hn : 257 ≤ n) :
    upto pre V n (no_index (Proc.devRef .tc main_v176)) = ReferenceIdeal.Value.res_main_v176 W := by
  rw [settled hn (by decide)]
  after_reads_simp [TRef.nullary, TRef.unary, TRef.binary, TRef.ternary, TRef.toBuf, TRef.ofBuf, cast_eq, host_v164 h]
  rfl

theorem host_v178 (h : Agree V W) {n : ℕ} (hn : 259 ≤ n) :
    upto pre V n (no_index (Proc.devRef .tc main_v178)) = ReferenceIdeal.Value.res_main_v178 W := by
  rw [settled hn (by decide)]
  after_reads_simp [TRef.nullary, TRef.unary, TRef.binary, TRef.ternary, TRef.toBuf, TRef.ofBuf, cast_eq, host_v161 h]
  rfl

theorem host_v180 (h : Agree V W) {n : ℕ} (hn : 261 ≤ n) :
    upto pre V n (no_index (Proc.devRef .tc main_v180)) = ReferenceIdeal.Value.res_main_v180 W := by
  rw [settled hn (by decide)]
  after_reads_simp [TRef.nullary, TRef.unary, TRef.binary, TRef.ternary, TRef.toBuf, TRef.ofBuf, cast_eq, host_v162 h]
  rfl

theorem host_v191 (h : Agree V W) {n : ℕ} (hn : 273 ≤ n) :
    upto pre V n (no_index (Proc.devRef .tc main_v191)) = ReferenceIdeal.Value.res_main_v191 W := by
  rw [settled hn (by decide)]
  after_reads_simp [TRef.nullary, TRef.unary, TRef.binary, TRef.ternary, TRef.toBuf, TRef.ofBuf, cast_eq, host_v174 h, host_v158 h]
  rfl

theorem host_v212 (h : Agree V W) {n : ℕ} (hn : 299 ≤ n) :
    upto pre V n (no_index (Proc.devRef .tc main_v212)) = ReferenceIdeal.Value.res_main_v212 W := by
  rw [settled hn (by decide)]
  after_reads_simp [TRef.nullary, TRef.unary, TRef.binary, TRef.ternary, TRef.toBuf, TRef.ofBuf, cast_eq, host_v174 h, host_v161 h]
  rfl

theorem host_v241 (h : Agree V W) {n : ℕ} (hn : 333 ≤ n) :
    upto pre V n (no_index (Proc.devRef .tc main_v241)) = ReferenceIdeal.Value.res_main_v241 W := by
  rw [settled hn (by decide)]
  after_reads_simp [TRef.nullary, TRef.unary, TRef.binary, TRef.ternary, TRef.toBuf, TRef.ofBuf, cast_eq, host_v178 h, host_v158 h]
  rfl

theorem host_v262 (h : Agree V W) {n : ℕ} (hn : 359 ≤ n) :
    upto pre V n (no_index (Proc.devRef .tc main_v262)) = ReferenceIdeal.Value.res_main_v262 W := by
  rw [settled hn (by decide)]
  after_reads_simp [TRef.nullary, TRef.unary, TRef.binary, TRef.ternary, TRef.toBuf, TRef.ofBuf, cast_eq, host_v178 h, host_v161 h]
  rfl

theorem host_v280 (h : Agree V W) {n : ℕ} (hn : 381 ≤ n) :
    upto pre V n (no_index (Proc.devRef .tc main_v280)) = ReferenceIdeal.Value.res_main_v280 W := by
  rw [settled hn (by decide)]
  after_reads_simp [TRef.nullary, TRef.unary, TRef.binary, TRef.ternary, TRef.toBuf, TRef.ofBuf, cast_eq, host_v191 h, host_v153 h, host_v176 h, host_v164 h, host_v171 h, host_v212 h, host_v162 h, host_v241 h, host_v180 h, host_v262 h]
  rfl

theorem host_v300 (h : Agree V W) {n : ℕ} (hn : 406 ≤ n) :
    upto pre V n (no_index (Proc.devRef .tc main_v300)) = ReferenceIdeal.Value.res_main_v300 W := by
  rw [settled hn (by decide)]
  after_reads_simp [TRef.nullary, TRef.unary, TRef.binary, TRef.ternary, TRef.toBuf, TRef.ofBuf, cast_eq, host_v280 h, host_v153 h, host_v149 h, h.arg9, h.arg10, h.arg11]
  rfl

end Cert.Proof.Host

end
-- ==== Proof.Reals.lean ====
/-
  Arrays whose every entry is a real number (neither infinity), and the operations that keep them so.

  The reference takes the sum of a batch of rows as the difference of two running sums. That is the sum itself only where
  the running sums are real numbers, so the certificate follows "every entry is a real number" through both
  convolutions. Each lemma here is one operation.
-/
module

public import Idealize.ShloMosaic.PureOps
public import Idealize.ShloMosaic.PureOps.Ideal
public import Idealize.ShloMosaic.PureOps.Ideal.Laws
public import Idealize.ShloMosaic.Lib.IdealHost

@[expose] public section

noncomputable section

open scoped BigOperators

namespace Cert.Proof.Reals

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- What lies strictly between the infinities is a real number. -/
theorem isReal_of_ne {x : EReal} (hb : x ≠ ⊥) (ht : x ≠ ⊤) : IsReal x := ⟨x.toReal, (EReal.coe_toReal ht hb).symm⟩
theorem IsReal.ne_bot {x : EReal} : IsReal x → x ≠ ⊥ := by rintro ⟨a, rfl⟩; exact EReal.coe_ne_bot a
theorem IsReal.ne_top {x : EReal} : IsReal x → x ≠ ⊤ := by rintro ⟨a, rfl⟩; exact EReal.coe_ne_top a

/-- An array of real numbers. -/
def AllReal {s : Shape} (v : FVec Ideal s .f32) : Prop := ∀ i, IsReal (v i)

section
variable {s t : Shape} {x y : FVec Ideal s .f32}

theorem AllReal.addf (hx : AllReal x) (hy : AllReal y) : AllReal (addf x y) := fun i => (hx i).add (hy i)
theorem AllReal.subf (hx : AllReal x) (hy : AllReal y) : AllReal (subf x y) := fun i => (hx i).sub (hy i)
theorem AllReal.mulf (hx : AllReal x) (hy : AllReal y) : AllReal (mulf x y) := fun i => (hx i).mul (hy i)
theorem AllReal.maximumf (hx : AllReal x) (hy : AllReal y) : AllReal (maximumf x y) := fun i => (hx i).max (hy i)
theorem AllReal.select (c : IVec s 1) (hx : AllReal x) (hy : AllReal y) : AllReal (select c x y) := fun i => by
  show IsReal (Scalar.select (c i) (x i) (y i))
  unfold Scalar.select
  split
  · exact hx i
  · exact hy i
theorem AllReal.floor (hx : AllReal x) : AllReal (Host.floor x) := fun i => by
  obtain ⟨r, hr⟩ := hx i
  refine ⟨((⌊r⌋ : ℤ) : ℝ), ?_⟩
  show Ideal.liftRound Int.floor (x i) = _
  rw [hr]; rfl
theorem AllReal.expm1 (hx : AllReal x) : AllReal (Host.expm1 x) := fun i => by
  obtain ⟨r, hr⟩ := hx i
  show IsReal (Ideal.exp (x i) - 1)
  rw [hr]
  exact (isReal_coe (Real.exp r)).sub isReal_one
theorem AllReal.broadcastInDim (dims : Fin s.rank → Fin t.rank) (h : s.BroadcastsInDim t dims) (hx : AllReal x) :
    AllReal (broadcastInDim t dims h x) := fun _ => hx _
theorem AllReal.shapeCast (h : s.ShapeCasts t) (hx : AllReal x) : AllReal (shapeCast t x h) := fun _ => hx _
theorem AllReal.slice (off : Fin s.rank → Nat) (h : s.Slices off t) (hx : AllReal x) :
    AllReal (extractStridedSlice t off x h) := fun _ => hx _
theorem AllReal.gather {si : Shape} {w : Nat} (d : GatherDims s si t) (idx : IVec si w) (hx : AllReal x) :
    AllReal (Host.gather d x idx) := fun _ => hx _
theorem AllReal.scatterAdd {si u : Shape} {w : Nat} (d : ScatterDims s si u) (idx : IVec si w) {upd : FVec Ideal u .f32}
    (hx : AllReal x) (hu : AllReal upd) : AllReal (Host.scatterAdd d x idx upd) := fun i =>
  (hx i).add (IsReal.sum _ _ fun j _ => hu j)
theorem AllReal.dotGeneral {l r : Shape} (d : DotDims l r t) (p : Option ContractPrecision) {a : FVec Ideal l .f32} {b : FVec Ideal r .f32}
    (ha : AllReal a) (hb : AllReal b) : AllReal (Host.dotGeneral d p a b) := fun _ =>
  isReal_zero.add (IsReal.sum _ _ fun _ _ => (ha _).mul (hb _))
/-- A quotient by something at least one. -/
theorem AllReal.divf (hx : AllReal x) (hy : AllReal y) (h1 : ∀ i, (1 : EReal) ≤ y i) : AllReal (Host.divf x y) := fun i => by
  obtain ⟨r, hr⟩ := hy i
  have h0 : r ≠ 0 := by
    rintro rfl
    have := h1 i
    rw [hr] at this
    exact absurd (EReal.coe_le_coe_iff.mp this) (by norm_num)
  show IsReal (Ideal.div (x i) (y i))
  rw [hr, Ideal.div_coe h0]
  exact (hx i).mul (isReal_coe _)
theorem allReal_constant (b : BitVec 32) (h : IsReal (Ideal.ofBits .f32 b)) : AllReal (constant s .f32 b) := fun _ => h
/-- The maximum along an axis, from minus infinity, of at least one entry each. -/
theorem AllReal.reduceMax {axes : List (Fin s.rank)} {u : Shape} (init : FVec Ideal u .f32) (h : s.ReducesTo axes t)
    (hu : 0 < u.numel) (hi : init (Shape.Idx.first hu) = (⊥ : EReal)) (hs : ∀ j, ∃ i, h.drop i = j) (hx : AllReal x) :
    AllReal (Host.reduce FloatOps.maximumf x init h hu) := fun j => by
  have key : ∀ (l : List (Fin s.numel)) (b : EReal), b ≠ ⊤ →
      l.foldl (fun r n => max r (x (s.rowMajor.symm n))) b ≠ ⊤ ∧
      (b ≠ ⊥ ∨ l ≠ [] → l.foldl (fun r n => max r (x (s.rowMajor.symm n))) b ≠ ⊥) := by
    intro l
    induction l with
    | nil => intro b hb; exact ⟨hb, fun h => h.elim id fun h => absurd rfl h⟩
    | cons n l ih =>
      intro b hb
      have h1 : max b (x (s.rowMajor.symm n)) ≠ ⊤ := by
        rcases max_choice b (x (s.rowMajor.symm n)) with h | h <;> rw [h]
        · exact hb
        · exact (hx _).ne_top
      have h2 : max b (x (s.rowMajor.symm n)) ≠ ⊥ := fun h =>
        (hx (s.rowMajor.symm n)).ne_bot (le_bot_iff.mp (h ▸ le_max_right b _))
      exact ⟨(ih _ h1).1, fun _ => (ih _ h1).2 (.inl h2)⟩
  obtain ⟨i, hi'⟩ := hs j
  have hne : ((List.finRange s.numel).filter fun n => h.drop (s.rowMajor.symm n) = j) ≠ [] :=
    List.ne_nil_of_mem (a := s.rowMajor i) (List.mem_filter.mpr ⟨List.mem_finRange _, by simpa using hi'⟩)
  have hk := key ((List.finRange s.numel).filter fun n => h.drop (s.rowMajor.symm n) = j) ⊥ bot_ne_top
  show IsReal (((List.finRange s.numel).filter fun n => h.drop (s.rowMajor.symm n) = j).foldl
    (fun r n => max r (x (s.rowMajor.symm n))) (init (Shape.Idx.first hu)))
  rw [hi]
  exact isReal_of_ne (hk.2 (.inr hne)) hk.1

end

/-- The bit patterns of the constants the reference writes. -/
theorem isReal_bits_zero : IsReal (Ideal.ofBits .f32 0x00000000#32) := by rw [Ideal.ofBits_zero_f32]; exact isReal_zero
theorem isReal_bits_one : IsReal (Ideal.ofBits .f32 0x3F800000#32) := by rw [Ideal.ofBits_one_f32]; exact isReal_one
theorem bits_four : Ideal.ofBits .f32 0x40800000#32 = ((4 : ℝ) : EReal) := by
  simp [Ideal.ofBits, Ideal.ieee, -EReal.coe_mul]; norm_num
theorem isReal_bits_four : IsReal (Ideal.ofBits .f32 0x40800000#32) := ⟨4, bits_four⟩
theorem bits_thousand : Ideal.ofBits .f32 0x447A0000#32 = ((1000 : ℝ) : EReal) := by
  simp [Ideal.ofBits, Ideal.ieee, -EReal.coe_mul]; norm_num
theorem bits_neg_inf : Ideal.ofBits .f32 0xFF800000#32 = (⊥ : EReal) := by simp [Ideal.ofBits, Ideal.ieee]
theorem bits_inf : Ideal.ofBits .f32 0x7F800000#32 = (⊤ : EReal) := by simp [Ideal.ofBits, Ideal.ieee]

end Cert.Proof.Reals

end
-- ==== Proof.Pooled.lean ====
/-
  The array the kernel is launched on, and the two biases it takes as rows.

  After its last host operation the kernel's program holds, in the buffers it hands to its block, the pooled features
  that the reference computes too (`pooled`) and the two biases reshaped to one row.
-/
module

public import proofs.«01_k».proof.Proof.Host
public import proofs.«01_k».proof.Proof.Gen.KernelIdeal.Frame

@[expose] public section

set_option maxRecDepth 8192

noncomputable section

namespace Cert.Proof.Host

open Idealize.ShloMosaic Idealize.ShloMosaic.StableHlo Idealize.SL.Sem

section
open Cert.ReferenceIdeal Cert.ReferenceIdeal.Gen

/-- What the second convolution leaves once pooled: the larger of each pair of rows, after the activation. -/
def pooled (W : Valuation ReferenceIdeal.τ ReferenceIdeal.sig (Elt Ideal)) : FVec Ideal ReferenceIdeal.S25000x64 .f32 :=
  Host.reduce FloatOps.maximumf (shapeCast S25000x2x64 (select (cmpf .ogt (Value.res_main_v300 W) (broadcastInDim S50000x64 ![] bcast_S_S50000x64 (constant S_ .f32 0x00000000#32))) (Value.res_main_v300 W) (mulf (broadcastInDim S50000x64 ![] bcast_S_S50000x64 (constant S_ .f32 0x3F800000#32)) (Host.expm1 (select (cmpf .ogt (Value.res_main_v300 W) (broadcastInDim S50000x64 ![] bcast_S_S50000x64 (constant S_ .f32 0x00000000#32))) (broadcastInDim S50000x64 ![] bcast_S_S50000x64 (id (constant S_ .f32 0x00000000#32))) (Value.res_main_v300 W))))) shapeCasts_S50000x64_S25000x2x64) (constant S_ .f32 0xFF800000#32) reducesTo_S25000x2x64_S25000x64_d1 h_S_

end

open Cert.KernelIdeal Cert.KernelIdeal.Gen

variable {V : Valuation τ sig (Elt Ideal)} {W : Valuation ReferenceIdeal.τ ReferenceIdeal.sig (Elt Ideal)}

theorem host_v303 (h : Agree V W) {n : ℕ} (hn : 424 ≤ n) :
    upto pre V n (no_index (Proc.devRef .tc main_v303)) = pooled W := by
  rw [settled hn (by decide)]
  after_reads_simp [TRef.nullary, TRef.unary, TRef.binary, TRef.ternary, TRef.toBuf, TRef.ofBuf, cast_eq, host_v300 h]
  rfl

theorem host_v304 (h : Agree V W) {n : ℕ} (hn : 425 ≤ n) :
    upto pre V n (no_index (Proc.devRef .tc main_v304))
      = shapeCast S1x128 (W (Proc.devRef .tc ReferenceIdeal.main_arg13)) shapeCasts_S128_S1x128 := by
  rw [settled hn (by decide)]
  after_reads_simp [TRef.nullary, TRef.unary, TRef.binary, TRef.ternary, TRef.toBuf, TRef.ofBuf, cast_eq, h.arg13]
  rfl

theorem host_v305 (h : Agree V W) {n : ℕ} (hn : 426 ≤ n) :
    upto pre V n (no_index (Proc.devRef .tc main_v305))
      = shapeCast S1x10 (W (Proc.devRef .tc ReferenceIdeal.main_arg15)) shapeCasts_S10_S1x10 := by
  rw [settled hn (by decide)]
  after_reads_simp [TRef.nullary, TRef.unary, TRef.binary, TRef.ternary, TRef.toBuf, TRef.ofBuf, cast_eq, h.arg15]
  rfl

end Cert.Proof.Host

end
-- ==== Proof.Finite.lean ====
/-
  Everything both convolutions compute is a real number, where the features, the edge coordinates and the weights are.

  The certificate walks down the reference's buffers: the spline weights, the scattered neighbours, the convolution's
  quotient by a degree that is at least one, the activation, and the larger of each pair of rows.
-/
module

public import proofs.«01_k».proof.Proof.Reals
public import proofs.«01_k».proof.Proof.Pooled
public import Idealize.ShloMosaic.Lib.ValueIdxCore

@[expose] public section

set_option maxRecDepth 8192

noncomputable section

namespace Cert.Proof.Finite

open Idealize.ShloMosaic Idealize.ShloMosaic.StableHlo
open Cert.ReferenceIdeal Cert.ReferenceIdeal.Gen Cert.ReferenceIdeal.Value
open Cert.Proof.Reals

/-! ## Steps that both convolutions take -/

/-- A constant spread over an array. -/
theorem spread {t : Shape} {b : BitVec 32} (h : S_.BroadcastsInDim t (![] : Fin 0 → Fin t.rank)) (hb : IsReal (Ideal.ofBits .f32 b)) :
    AllReal (broadcastInDim t ![] h (constant (F := Ideal) S_ .f32 b)) := (allReal_constant b hb).broadcastInDim _ h

/-- The activation keeps an array real: it is the entry itself, or one less than its exponential. -/
theorem elu {t : Shape} {x z one : FVec Ideal t .f32} {c : IVec t 1} (hx : AllReal x) (hz : AllReal z) (h1 : AllReal one) :
    AllReal (select c x (mulf one (Host.expm1 (select c z x)))) := hx.select c (h1.mulf (hz.select c hx).expm1)

/-- Of two neighbouring rows, each column has an entry. -/
theorem pair_drop {n k : ℕ} (h : (⟨3, ![n, 2, k]⟩ : Shape).ReducesTo [1] ⟨2, ![n, k]⟩) (j : (⟨2, ![n, k]⟩ : Shape).Idx) :
    ∃ i, h.drop i = j := by
  refine ⟨ValueIdx.ix3 (j 0) 0 (j 1), funext fun b => Fin.ext ?_⟩
  match b with
  | ⟨0, _⟩ => exact Shape.ReducesTo.drop_apply_val h _ 0
  | ⟨1, _⟩ => exact Shape.ReducesTo.drop_apply_val h _ 1

/-- The larger of each pair of rows. -/
theorem pool {n k : ℕ} (h : (⟨3, ![n, 2, k]⟩ : Shape).ReducesTo [1] ⟨2, ![n, k]⟩) {x : FVec Ideal ⟨3, ![n, 2, k]⟩ .f32} (hx : AllReal x) :
    AllReal (Host.reduce FloatOps.maximumf x (constant S_ .f32 0xFF800000#32) h h_S_) :=
  hx.reduceMax _ h h_S_ bits_neg_inf (pair_drop h)

/-- The convolution from its parts: what was gathered per kernel cell times the weights, by the degree, plus the
    node's own term and the bias. -/
theorem combine {s : Shape} {a d r b : FVec Ideal s .f32} (ha : AllReal a) (hd : AllReal d) (h1 : ∀ i, (1 : EReal) ≤ d i)
    (hr : AllReal r) (hb : AllReal b) : AllReal (addf (addf (Host.divf a d) r) b) := ((ha.divf hd h1).addf hr).addf hb

/-! ## The reference's buffers -/

variable {W : Valuation τ sig (Elt Ideal)}

/-- The floats the convolutions read are real numbers. -/
structure RealArgs (W : Valuation τ sig (Elt Ideal)) : Prop where
  x : AllReal (s := S100000x1) (W (Proc.devRef .tc main_arg0))
  pseudo1 : AllReal (s := S1600000x2) (W (Proc.devRef .tc main_arg2))
  pseudo2 : AllReal (s := S800000x2) (W (Proc.devRef .tc main_arg4))
  W1 : AllReal (s := S25x1x32) (W (Proc.devRef .tc main_arg6))
  root1 : AllReal (s := S1x32) (W (Proc.devRef .tc main_arg7))
  b1 : AllReal (s := S32) (W (Proc.devRef .tc main_arg8))
  W2 : AllReal (s := S25x32x64) (W (Proc.devRef .tc main_arg9))
  root2 : AllReal (s := S32x64) (W (Proc.devRef .tc main_arg10))
  b2 : AllReal (s := S64) (W (Proc.devRef .tc main_arg11))

section
variable (h : RealArgs W)
include h

theorem real_v5 : AllReal (s := S1600000x2) (res_main_v5 W) := h.pseudo1.mulf (spread _ isReal_bits_four)
theorem real_v12 : AllReal (s := S1600000x2) (res_main_v12 W) := (real_v5 h).subf (real_v5 h).floor
theorem real_v14 : AllReal (s := S1600000x2) (res_main_v14 W) := (spread _ isReal_bits_one).subf (real_v12 h)
theorem real_v21 : AllReal (s := S1600000x1) (res_main_v21 W) := h.x.gather _ _
theorem real_v26 : AllReal (s := S1600000) (res_main_v26 W) := ((real_v14 h).slice _ _).shapeCast _
theorem real_v30 : AllReal (s := S1600000) (res_main_v30 W) := ((real_v12 h).slice _ _).shapeCast _

/-- One corner's share of the first scatter. -/
theorem share1 {a : FVec Ideal S1600000 .f32} {v : FVec Ideal S1600000x2 .f32} (ha : AllReal a) (hv : AllReal v) :
    AllReal (mulf (broadcastInDim S1600000x1 ![0] bcast_S1600000_S1600000x1_0 (mulf a (shapeCast S1600000
      (extractStridedSlice S1600000x1 ![0, 1] v slices_S1600000x2_S1600000x1_0_1) shapeCasts_S1600000x1_S1600000)))
      (res_main_v21 W : FVec Ideal S1600000x1 .f32)) :=
  ((ha.mulf ((hv.slice _ _).shapeCast _)).broadcastInDim _ _).mulf (real_v21 h)

theorem real_v126 : AllReal (s := S25x100000x1) (res_main_v126 W) :=
  ((((spread _ isReal_bits_zero).scatterAdd _ _ (share1 h (real_v26 h) (real_v14 h))).scatterAdd _ _
    (share1 h (real_v26 h) (real_v12 h))).scatterAdd _ _ (share1 h (real_v30 h) (real_v14 h))).scatterAdd _ _
    (share1 h (real_v30 h) (real_v12 h))

theorem real_v146 : AllReal (s := S100000x32) (res_main_v146 W) :=
  combine ((real_v126 h).dotGeneral _ _ h.W1)
    (((((spread _ isReal_bits_zero).scatterAdd _ _ (spread _ isReal_bits_one)).maximumf (spread _ isReal_bits_one)).broadcastInDim _ _).broadcastInDim _ _)
    (fun _ => le_of_eq_of_le Ideal.ofBits_one_f32.symm (le_max_right _ _))
    (h.x.dotGeneral _ _ h.root1) ((h.b1.broadcastInDim _ _).broadcastInDim _ _)

theorem real_v149 : AllReal (s := S50000x32) (res_main_v149 W) :=
  pool reducesTo_S50000x2x32_S50000x32_d1
    ((elu (real_v146 h) (spread bcast_S_S100000x32 isReal_bits_zero) (spread bcast_S_S100000x32 isReal_bits_one)).shapeCast shapeCasts_S100000x32_S50000x2x32)

theorem real_v155 : AllReal (s := S800000x2) (res_main_v155 W) := h.pseudo2.mulf (spread _ isReal_bits_four)
theorem real_v162 : AllReal (s := S800000x2) (res_main_v162 W) := (real_v155 h).subf (real_v155 h).floor
theorem real_v164 : AllReal (s := S800000x2) (res_main_v164 W) := (spread _ isReal_bits_one).subf (real_v162 h)
theorem real_v171 : AllReal (s := S800000x32) (res_main_v171 W) := (real_v149 h).gather _ _
theorem real_v176 : AllReal (s := S800000) (res_main_v176 W) := ((real_v164 h).slice _ _).shapeCast _
theorem real_v180 : AllReal (s := S800000) (res_main_v180 W) := ((real_v162 h).slice _ _).shapeCast _

/-- One corner's share of the second scatter. -/
theorem share2 {a : FVec Ideal S800000 .f32} {v : FVec Ideal S800000x2 .f32} (ha : AllReal a) (hv : AllReal v) :
    AllReal (mulf (broadcastInDim S800000x32 ![0, 1] bcast_S800000x1_S800000x32_0_1 (broadcastInDim S800000x1 ![0] bcast_S800000_S800000x1_0
      (mulf a (shapeCast S800000 (extractStridedSlice S800000x1 ![0, 1] v slices_S800000x2_S800000x1_0_1) shapeCasts_S800000x1_S800000))))
      (res_main_v171 W : FVec Ideal S800000x32 .f32)) :=
  (((ha.mulf ((hv.slice _ _).shapeCast _)).broadcastInDim _ _).broadcastInDim _ _).mulf (real_v171 h)

theorem real_v280 : AllReal (s := S25x50000x32) (res_main_v280 W) :=
  ((((spread _ isReal_bits_zero).scatterAdd _ _ (share2 h (real_v176 h) (real_v164 h))).scatterAdd _ _
    (share2 h (real_v176 h) (real_v162 h))).scatterAdd _ _ (share2 h (real_v180 h) (real_v164 h))).scatterAdd _ _
    (share2 h (real_v180 h) (real_v162 h))

theorem real_v300 : AllReal (s := S50000x64) (res_main_v300 W) :=
  combine ((real_v280 h).dotGeneral _ _ h.W2)
    (((((spread _ isReal_bits_zero).scatterAdd _ _ (spread _ isReal_bits_one)).maximumf (spread _ isReal_bits_one)).broadcastInDim _ _).broadcastInDim _ _)
    (fun _ => le_of_eq_of_le Ideal.ofBits_one_f32.symm (le_max_right _ _))
    ((real_v149 h).dotGeneral _ _ h.root2) ((h.b2.broadcastInDim _ _).broadcastInDim _ _)

/-- The pooled features are real numbers. -/
theorem real_pooled : AllReal (Host.pooled W) :=
  pool reducesTo_S25000x2x64_S25000x64_d1
    ((elu (real_v300 h) (spread bcast_S_S50000x64 isReal_bits_zero) (spread bcast_S_S50000x64 isReal_bits_one)).shapeCast shapeCasts_S50000x64_S25000x2x64)

end

end Cert.Proof.Finite

end
-- ==== Proof.Sums.lean ====
/-
  Running sums of the rows of an array, and what a difference of two of them is.

  Over the real numbers the sum of rows `a, a + 1, …, a + n - 1` is the running sum up to `a + n` less the running sum up
  to `a`.
-/
module

public import proofs.«01_k».proof.Proof.Reals
public import Idealize.ShloMosaic.Lib.Routing.Ops
public import Idealize.ShloMosaic.Lib.Routing.OpsOne

@[expose] public section

noncomputable section

open scoped BigOperators

namespace Cert.Proof.Sums

open Idealize.ShloMosaic Cert.Proof.Reals
open ValueIdx (ix2)

/-- Column `c` of an array, by the row's number; zero past the last row. -/
def col {R C : ℕ} (x : FVec Ideal ⟨2, ![R, C]⟩ .f32) (c : Fin C) (i : ℕ) : EReal :=
  if hi : i < R then x (ix2 ⟨i, hi⟩ c) else 0

theorem col_of_lt {R C : ℕ} (x : FVec Ideal ⟨2, ![R, C]⟩ .f32) (c : Fin C) {i : ℕ} (hi : i < R) :
    col x c i = x (ix2 ⟨i, hi⟩ c) := dif_pos hi

theorem isReal_col {R C : ℕ} {x : FVec Ideal ⟨2, ![R, C]⟩ .f32} (hx : AllReal x) (c : Fin C) (i : ℕ) : IsReal (col x c i) := by
  unfold col
  split
  · exact hx _
  · exact isReal_zero

/-- Adding terms up from the left, starting at zero, gives their sum. -/
theorem foldl_sum {n : ℕ} (g : Fin n → EReal) : (List.finRange n).foldl (fun r k => r + g k) 0 = ∑ k, g k := by
  have key : ∀ (l : List (Fin n)) (a : EReal), l.foldl (fun r k => r + g k) a = a + (l.map g).sum := by
    intro l
    induction l with
    | nil => intro a; simp
    | cons k l ih => intro a; rw [List.foldl_cons, ih, List.map_cons, List.sum_cons, add_assoc]
  rw [key, zero_add, Fin.sum_univ_def]

/-- A window as high as the array, slid so that its last row is row `j`, holds the rows up to `j`. -/
theorem window_sum (f : ℕ → EReal) {n j : ℕ} (hj : j ≤ n) :
    ∑ w ∈ Finset.range (n + 1), (if n ≤ j + w then f (j + w - n) else 0) = ∑ i ∈ Finset.range (j + 1), f i := by
  obtain ⟨d, rfl⟩ := Nat.exists_eq_add_of_le hj
  rw [show j + d + 1 = d + (j + 1) by omega, Finset.sum_range_add, Finset.sum_eq_zero, zero_add]
  · refine Finset.sum_congr rfl fun i _ => ?_
    rw [if_pos (by omega), show j + (d + i) - (j + d) = i by omega]
  · intro w hw
    rw [if_neg (by have := Finset.mem_range.mp hw; omega)]

/-- The running sums of an array's rows. -/
theorem running {R m C : ℕ} (hR : m + 1 = R) (x : FVec Ideal ⟨2, ![R, C]⟩ .f32) (init : FVec Ideal ⟨0, ![]⟩ .f32)
    (h : (⟨2, ![R, C]⟩ : Shape).ReduceWindows ![R, 1] ![1, 1] ![m, 0] ![0, 0] ⟨2, ![R, C]⟩)
    (hu : 0 < (⟨0, ![]⟩ : Shape).numel) (hinit : init (Shape.Idx.first hu) = (0 : EReal)) (j : Fin R) (c : Fin C) :
    Host.reduceWindowAdd ![R, 1] ![1, 1] ![m, 0] ![0, 0] x init h hu (ix2 j c) = ∑ i ∈ Finset.range (j.val + 1), col x c i := by
  subst hR
  have hj := j.isLt
  have hc := c.isLt
  have hn : (⟨2, ![m + 1, 1]⟩ : Shape).numel = m + 1 := Routing.numel_col (m + 1)
  rw [← window_sum (col x c) (n := m) (by omega), ← Fin.sum_univ_eq_sum_range (fun w => if m ≤ j.val + w then col x c (j.val + w - m) else 0),
    ← Fin.sum_congr' (fun w : Fin (m + 1) => if m ≤ j.val + w.val then col x c (j.val + w.val - m) else 0) hn]
  refine Eq.trans ?_ (foldl_sum (n := (⟨2, ![m + 1, 1]⟩ : Shape).numel) fun w => if m ≤ j.val + (w.cast hn).val then col x c (j.val + (w.cast hn).val - m) else 0)
  show (List.finRange (⟨2, ![m + 1, 1]⟩ : Shape).numel).foldl _ (init (Shape.Idx.first hu)) = _
  rw [hinit]
  refine congrArg (fun f => List.foldl f (0 : EReal) _) (funext fun r => funext fun n => congrArg (r + ·) ?_)
  have hw0 : ((⟨2, ![m + 1, 1]⟩ : Shape).rowMajor.symm n 0).val = n.val :=
    congrArg (fun i => (i 0).val) (Routing.symm_col n)
  have hw1 : ((⟨2, ![m + 1, 1]⟩ : Shape).rowMajor.symm n 1).val = 0 :=
    congrArg (fun i => (i 1).val) (Routing.symm_col n)
  have hlt : n.val < m + 1 := lt_of_lt_of_eq n.isLt hn
  by_cases hm : m ≤ j.val + n.val
  · have hin : ∀ a : Fin 2, (![m, 0] : Fin 2 → ℕ) a ≤ (ix2 j c a).val * (![1, 1] : Fin 2 → ℕ) a + ((⟨2, ![m + 1, 1]⟩ : Shape).rowMajor.symm n a).val
        ∧ (ix2 j c a).val * (![1, 1] : Fin 2 → ℕ) a + ((⟨2, ![m + 1, 1]⟩ : Shape).rowMajor.symm n a).val - (![m, 0] : Fin 2 → ℕ) a < (![m + 1, C] : Fin 2 → ℕ) a := by
      intro a
      match a with
      | ⟨0, _⟩ =>
        show m ≤ j.val * 1 + ((⟨2, ![m + 1, 1]⟩ : Shape).rowMajor.symm n 0).val ∧ j.val * 1 + ((⟨2, ![m + 1, 1]⟩ : Shape).rowMajor.symm n 0).val - m < m + 1
        omega
      | ⟨1, _⟩ =>
        show 0 ≤ c.val * 1 + ((⟨2, ![m + 1, 1]⟩ : Shape).rowMajor.symm n 1).val ∧ c.val * 1 + ((⟨2, ![m + 1, 1]⟩ : Shape).rowMajor.symm n 1).val - 0 < C
        omega
    refine (dif_pos hin).trans ?_
    show _ = if m ≤ j.val + n.val then col x c (j.val + n.val - m) else 0
    rw [if_pos hm, col_of_lt x c (by omega)]
    refine congrArg x (funext fun a => Fin.ext ?_)
    match a with
    | ⟨0, _⟩ =>
      show j.val * 1 + ((⟨2, ![m + 1, 1]⟩ : Shape).rowMajor.symm n 0).val - m = j.val + n.val - m
      omega
    | ⟨1, _⟩ =>
      show c.val * 1 + ((⟨2, ![m + 1, 1]⟩ : Shape).rowMajor.symm n 1).val - 0 = c.val
      omega
  · refine (dif_neg fun hin => hm ?_).trans ?_
    · have h0 : m ≤ j.val * 1 + ((⟨2, ![m + 1, 1]⟩ : Shape).rowMajor.symm n 0).val := (hin 0).1
      omega
    · show _ = if m ≤ j.val + n.val then col x c (j.val + n.val - m) else 0
      rw [if_neg hm]

/-- The difference of two running sums of real numbers. -/
theorem sub_running {f : ℕ → EReal} (hf : ∀ i, IsReal (f i)) (a n : ℕ) :
    ∑ i ∈ Finset.range (a + n), f i - ∑ i ∈ Finset.range a, f i = ∑ i ∈ Finset.range n, f (a + i) := by
  rw [Finset.sum_range_add]
  obtain ⟨s, hs⟩ := IsReal.sum (Finset.range a) f fun i _ => hf i
  obtain ⟨t, ht⟩ := IsReal.sum (Finset.range n) (fun i => f (a + i)) fun i _ => hf _
  rw [hs, ht, ← EReal.coe_add, ← EReal.coe_sub, add_sub_cancel_left]

end Cert.Proof.Sums

end
-- ==== Proof.Mean.lean ====
/-
  The mean of a batch of 1000 rows, which the two programs compute differently.

  The kernel adds up the rows of each batch and divides by 1000. The reference takes the difference of two rows of a table
  of running sums and divides by the difference of the boundaries. Where the boundaries are the multiples of 1000 and the
  rows are real numbers, these are the same.
-/
module

public import proofs.«01_k».proof.Proof.Sums
public import proofs.«01_k».proof.Proof.Pooled
public import Idealize.ShloMosaic.Lib.Pointwise
public import Idealize.ShloMosaic.Lib.Routing.Ops

@[expose] public section

set_option maxRecDepth 8192

noncomputable section

open scoped BigOperators

namespace Cert.Proof.Mean

open Idealize.ShloMosaic Idealize.ShloMosaic.StableHlo
open Cert.ReferenceIdeal Cert.ReferenceIdeal.Gen Cert.ReferenceIdeal.Value
open Cert.Proof.Reals Cert.Proof.Sums

variable {W : Valuation τ sig (Elt Ideal)}

/-- Row `k` of the table holds the sum of the first `k` rows. -/
theorem table_row (k : Fin 25001) (c : Fin 64) :
    (res_main_v306 W : FVec Ideal S25001x64 .f32) (ValueIdx.ix2 k c) = ∑ i ∈ Finset.range k.val, col (Host.pooled W) c i := by
  have hrun : ∀ j : Fin 25000, Host.reduceWindowAdd ![25000, 1] ![1, 1] ![24999, 0] ![0, 0] (Host.pooled W)
      (broadcastInDim S_ ![] bcast_S_S_ (constant S_ .f32 0x00000000#32)) reduceWindows_S25000x64_S25000x64_w25000s1p24999_0_w1s1p0_0 h_S_
      (ValueIdx.ix2 j c) = ∑ i ∈ Finset.range (j.val + 1), col (Host.pooled W) c i := fun j =>
    running rfl _ _ _ h_S_ Ideal.ofBits_zero_f32 j c
  change concatenate S25001x64 0 [⟨S1x64, (broadcastInDim S1x64 ![] bcast_S_S1x64 (constant S_ .f32 0x00000000#32))⟩,
    ⟨S25000x64, Host.reduceWindowAdd ![25000, 1] ![1, 1] ![24999, 0] ![0, 0] (Host.pooled W)
      (broadcastInDim S_ ![] bcast_S_S_ (constant S_ .f32 0x00000000#32)) reduceWindows_S25000x64_S25000x64_w25000s1p24999_0_w1s1p0_0 h_S_⟩]
    concatenates_S1x64_S25000x64_S25001x64_d0 (ValueIdx.ix2 k c) = _
  generalize Host.reduceWindowAdd ![25000, 1] ![1, 1] ![24999, 0] ![0, 0] (Host.pooled W)
      (broadcastInDim S_ ![] bcast_S_S_ (constant S_ .f32 0x00000000#32)) reduceWindows_S25000x64_S25000x64_w25000s1p24999_0_w1s1p0_0 h_S_ = T at *
  rw [← ix2_eq_valueIdx]
  pointwise
  split
  · next h => rw [show k.val = 0 by omega, Finset.sum_range_zero]
  · next h =>
    rw [ix2_eq_valueIdx, hrun]
    show ∑ i ∈ Finset.range (k.val - 1 + 1), _ = _
    rw [Nat.sub_add_cancel (by omega)]

/-- The boundaries are the multiples of 1000. -/
def Even (W : Valuation τ sig (Elt Ideal)) : Prop :=
  ∀ k : Fin 26, (W (Proc.devRef .tc main_arg5) : IVec S26 32) (ValueIdx.ix1 k) = BitVec.ofNat 32 (k.val * 1000)

/-- The reference's wrap of negative row numbers leaves a row number that is not negative. -/
theorem wrapped {v : IVec S25 32} (b : Fin 25) {n : ℕ} (hn : n ≤ 25000) (hv : v (ValueIdx.ix1 b) = BitVec.ofNat 32 n) :
    (broadcastInDim S25x1 ![0] bcast_S25_S25x1_0 (select (cmpi .slt v (broadcastInDim S25 ![] bcast_S_S25 (constantI S_ 32 0#32)))
      (addi v (broadcastInDim S25 ![] bcast_S_S25 (constantI S_ 32 25001#32))) v)) (ValueIdx.ix2 b (0 : Fin 1)) = BitVec.ofNat 32 n := by
  rw [← ix2_eq_valueIdx]
  rw [← ix1_eq_valueIdx] at hv
  pointwise
  rw [hv]
  have hslt : IntOp.cmpi .slt (BitVec.ofNat 32 n) 0#32 = 0#1 := by
    show BitVec.ofBool ((BitVec.ofNat 32 n).slt 0#32) = 0#1
    have hnat : (BitVec.ofNat 32 n).toNat = n := by rw [BitVec.toNat_ofNat]; omega
    have hpos : (BitVec.ofNat 32 n).toInt = n := by rw [BitVec.toInt_eq_toNat_of_lt (by omega), hnat]
    rw [BitVec.slt_eq_decide, hpos]
    have : ¬ ((n : ℤ) < (0#32).toInt) := by simp
    rw [decide_eq_false this]
    rfl
  rw [hslt]
  rfl

theorem boundary1 (h : Even W) (b : Fin 25) :
    (res_main_v307 W : IVec S25 32) (ValueIdx.ix1 b) = BitVec.ofNat 32 (b.val * 1000 + 1000) := by
  have hk := h ⟨b.val + 1, by omega⟩
  rw [← ix1_eq_valueIdx] at hk ⊢
  unfold res_main_v307
  pointwise
  have e : (⟨1 + b.val, by omega⟩ : Fin 26) = ⟨b.val + 1, by omega⟩ := Fin.ext (Nat.add_comm _ _)
  rw [e]
  refine hk.trans (congrArg (BitVec.ofNat 32) ?_)
  show (b.val + 1) * 1000 = _
  omega

theorem boundary0 (h : Even W) (b : Fin 25) :
    (res_main_v315 W : IVec S25 32) (ValueIdx.ix1 b) = BitVec.ofNat 32 (b.val * 1000) := by
  have hk := h ⟨b.val, by omega⟩
  rw [← ix1_eq_valueIdx] at hk ⊢
  unfold res_main_v315
  pointwise
  exact hk

/-- The kernel's mean of each batch. -/
def blockMean (x : FVec Ideal KernelIdeal.S25000x64 .f32) : FVec Ideal KernelIdeal.S25x64 .f32 :=
  divf (multiReduction .add [1] KernelIdeal.S25x64 (shapeCast KernelIdeal.S25x1000x64 (shapeCast KernelIdeal.S25000x64 x
    KernelIdeal.Gen.shapeCasts_S25000x64_S25000x64) KernelIdeal.Gen.shapeCasts_S25000x64_S25x1000x64) 0x00000000#32
    KernelIdeal.Gen.reduces_S25x1000x64_S25x64 (.inl rfl) rfl) (broadcast KernelIdeal.S25x64 (Scalar.ofBits .f32 0x447A0000#32))

theorem blockMean_at (x : FVec Ideal KernelIdeal.S25000x64 .f32) (b : Fin 25) (c : Fin 64) :
    blockMean x (ValueIdx.ix2 b c) = Ideal.div (∑ i ∈ Finset.range 1000, col x c (b.val * 1000 + i)) ((1000 : ℝ) : EReal) := by
  unfold blockMean
  rw [← ix2_eq_valueIdx]
  pointwise
  rw [bits_thousand, ← Fin.sum_univ_eq_sum_range fun i => col x c (b.val * 1000 + i)]
  refine congrArg (Ideal.div · _) (Finset.sum_congr rfl fun i _ => ?_)
  rw [col_of_lt x c (by omega), ix2_eq_valueIdx]

/-- The reference's mean of each batch. -/
def tableMean (W : Valuation τ sig (Elt Ideal)) : FVec Ideal S25x64 .f32 :=
  Host.divf (subf
    (Host.gather gather_S25001x64_S25x1_S25x64_1_0_n_n_0_1_164 (res_main_v306 W) (broadcastInDim S25x1 ![0] bcast_S25_S25x1_0 (select (cmpi .slt (res_main_v307 W) (broadcastInDim S25 ![] bcast_S_S25 (constantI S_ 32 0#32))) (addi (res_main_v307 W) (broadcastInDim S25 ![] bcast_S_S25 (constantI S_ 32 25001#32))) (res_main_v307 W))))
    (Host.gather gather_S25001x64_S25x1_S25x64_1_0_n_n_0_1_164 (res_main_v306 W) (broadcastInDim S25x1 ![0] bcast_S25_S25x1_0 (select (cmpi .slt (res_main_v315 W) (broadcastInDim S25 ![] bcast_S_S25 (constantI S_ 32 0#32))) (addi (res_main_v315 W) (broadcastInDim S25 ![] bcast_S_S25 (constantI S_ 32 25001#32))) (res_main_v315 W)))))
    (broadcastInDim S25x64 ![0, 1] bcast_S25x1_S25x64_0_1 (broadcastInDim S25x1 ![0] bcast_S25_S25x1_0 (maximumf (sitofp .f32 (subi (res_main_v307 W) (res_main_v315 W))) (broadcastInDim S25 ![] bcast_S_S25 (constant S_ .f32 0x3F800000#32)))))

/-- A row the reference takes from the table of running sums. -/
theorem taken {v : IVec S25 32} (b : Fin 25) (c : Fin 64) {n : ℕ} (hn : n ≤ 25000) (hv : v (ValueIdx.ix1 b) = BitVec.ofNat 32 n) :
    Host.gather gather_S25001x64_S25x1_S25x64_1_0_n_n_0_1_164 (res_main_v306 W : FVec Ideal S25001x64 .f32)
      (broadcastInDim S25x1 ![0] bcast_S25_S25x1_0 (select (cmpi .slt v (broadcastInDim S25 ![] bcast_S_S25 (constantI S_ 32 0#32)))
        (addi v (broadcastInDim S25 ![] bcast_S_S25 (constantI S_ 32 25001#32))) v)) (ValueIdx.ix2 b c)
      = ∑ i ∈ Finset.range n, col (Host.pooled W) c i :=
  (Routing.gather_row _ rfl rfl rfl rfl rfl _ _ b c ⟨n, by omega⟩ (wrapped b hn hv) (by norm_num)).trans (table_row ⟨n, by omega⟩ c)

/-- Consecutive boundaries lie 1000 apart. -/
theorem count (h : Even W) (b : Fin 25) :
    (maximumf (sitofp .f32 (subi (res_main_v307 W) (res_main_v315 W))) (broadcastInDim S25 ![] bcast_S_S25 (constant S_ .f32 0x3F800000#32)) : FVec Ideal S25 .f32)
      (ValueIdx.ix1 b) = ((1000 : ℝ) : EReal) := by
  have hd : IntOp.subi ((res_main_v307 W : IVec S25 32) (ValueIdx.ix1 b)) ((res_main_v315 W : IVec S25 32) (ValueIdx.ix1 b)) = 1000#32 := by
    rw [boundary1 h b, boundary0 h b]
    revert b
    decide
  show max ((((IntOp.subi ((res_main_v307 W : IVec S25 32) (ValueIdx.ix1 b)) ((res_main_v315 W : IVec S25 32) (ValueIdx.ix1 b))).toInt : ℝ) : EReal))
    (Ideal.ofBits .f32 0x3F800000#32) = _
  rw [hd, Ideal.ofBits_one_f32, show (1000#32).toInt = 1000 from by decide]
  refine (max_eq_left ?_).trans (by norm_num)
  exact_mod_cast (by norm_num : (1 : ℝ) ≤ 1000)

/-- The two means are the same. -/
theorem mean_eq (h : Even W) (hx : AllReal (Host.pooled W)) : tableMean W = blockMean (Host.pooled W) := by
  funext j
  obtain ⟨b, c, rfl⟩ : ∃ (b : Fin 25) (c : Fin 64), j = ValueIdx.ix2 b c := ⟨j 0, j 1, ValueIdx.eq_ix2 j⟩
  refine Eq.trans ?_ (blockMean_at (Host.pooled W) b c).symm
  have hb := b.isLt
  refine congrArg₂ Ideal.div (Eq.trans (congrArg₂ (fun p q : EReal => p - q)
    (taken b c (by omega) (boundary1 h b)) (taken b c (by omega) (boundary0 h b)))
    (sub_running (fun i => isReal_col hx c i) (b.val * 1000) 1000)) ?_
  refine Eq.trans ?_ (count h b)
  refine congrArg (maximumf (sitofp .f32 (subi (res_main_v307 W) (res_main_v315 W))) (broadcastInDim S25 ![] bcast_S_S25 (constant S_ .f32 0x3F800000#32)) : FVec Ideal S25 .f32) (funext fun a => ?_)
  match a with
  | ⟨0, _⟩ => rfl

end Cert.Proof.Mean

end
-- ==== Proof.Inputs.lean ====
/-
  What the precondition says of the arguments.

  `equal_batches_finite_features` is ten arrays of truth values, all of them true: one says that the boundaries of the
  batches are the multiples of 1000, the others that the entries of nine arrays are not infinite.
-/
module

public import proofs.«01_k».proof.Defs
public import proofs.«01_k».proof.Proof.Host
public import proofs.«01_k».proof.Proof.Finite
public import proofs.«01_k».proof.Proof.Mean

@[expose] public section

noncomputable section

namespace Cert.Proof.Inputs

open Idealize.ShloMosaic
open Cert.Pre_equal_batches_finite_features
open Cert.Proof.Reals

/-- The shapes of the precondition's operations fit. -/
theorem facts : Cert.Pre_equal_batches_finite_features.Facts where
  bcast_S_S26 := by decide
  bcast_S_S100000x1 := by decide
  bcast_S_S1600000x2 := by decide
  bcast_S_S800000x2 := by decide
  bcast_S_S25x1x32 := by decide
  bcast_S_S1x32 := by decide
  bcast_S_S32 := by decide
  bcast_S_S25x32x64 := by decide
  bcast_S_S32x64 := by decide
  bcast_S_S64 := by decide

/-- A number whose absolute value is below the infinity is a real number. -/
theorem isReal_of_abs_lt {x : EReal} (h : max x (-x) < ⊤) : IsReal x := by
  refine isReal_of_ne ?_ ?_ <;> rintro rfl <;> simp at h

/-- An array is real where the comparison of each absolute value with the infinity came out true. -/
theorem allReal_of_lt {t : Shape} {x : FVec Ideal t .f32} {h : S_.BroadcastsInDim t (![] : Fin 0 → Fin t.rank)}
    (hx : cmpf .olt (Host.absf x) (broadcastInDim t ![] h (constant (F := Ideal) S_ .f32 0x7F800000#32)) = fun _ => 1#1) :
    AllReal x := by
  intro i
  apply isReal_of_abs_lt
  have hi := congrFun hx i
  have hi' : BitVec.ofBool (decide (max (x i) (-(x i)) < Ideal.ofBits .f32 0x7F800000#32)) = 1#1 := hi
  rw [bits_inf] at hi'
  by_contra hn
  rw [decide_eq_false hn] at hi'
  exact absurd hi' (by decide)

/-- The boundaries are the multiples of 1000 where the comparison with them came out true. -/
theorem boundary_of_eq {x : IVec S26 32} {h : S_.BroadcastsInDim S26 (![] : Fin 0 → Fin S26.rank)}
    (hx : cmpi .eq x (muli (iotaInDim S26 32 0) (broadcastInDim S26 ![] h (constantI S_ 32 1000#32))) = fun _ => 1#1) (k : Fin 26) :
    x (ValueIdx.ix1 k) = BitVec.ofNat 32 (k.val * 1000) := by
  have hk := congrFun hx (ValueIdx.ix1 k)
  have hk' : BitVec.ofBool (x (ValueIdx.ix1 k) == BitVec.ofNat 32 k.val * 1000#32) = 1#1 := hk
  by_contra hn
  have hm : BitVec.ofNat 32 k.val * 1000#32 = BitVec.ofNat 32 (k.val * 1000) := (BitVec.ofNat_mul ..).symm
  rw [hm, beq_false_of_ne hn] at hk'
  exact absurd hk' (by decide)

variable {m : (ℓ : Loc KernelIdeal.nD KernelIdeal.τ KernelIdeal.sig) → Buf (Elt Ideal) ℓ}
  {W : Valuation ReferenceIdeal.τ ReferenceIdeal.sig (Elt Ideal)} (c : Dev KernelIdeal.nD)

/-- Under the precondition the reference's boundaries are the multiples of 1000, where it has the kernel's arguments. -/
theorem even (hm : Pre_KernelIdeal_equal_batches_finite_features (hPre_equal_batches_finite_features := facts) m)
    (h : Host.Agree (fun b => m (c, b)) W) : Mean.Even W := by
  intro k
  rw [← h.arg5]
  exact boundary_of_eq (hm c).1 k

/-- Under the precondition the reference's features, edge coordinates and weights are real numbers. -/
theorem realArgs (hm : Pre_KernelIdeal_equal_batches_finite_features (hPre_equal_batches_finite_features := facts) m)
    (h : Host.Agree (fun b => m (c, b)) W) : Finite.RealArgs W := by
  obtain ⟨-, h0, h2, h4, h6, h7, h8, h9, h10, h11⟩ := hm c
  constructor
  · rw [← h.arg0]; exact allReal_of_lt h0
  · rw [← h.arg2]; exact allReal_of_lt h2
  · rw [← h.arg4]; exact allReal_of_lt h4
  · rw [← h.arg6]; exact allReal_of_lt h6
  · rw [← h.arg7]; exact allReal_of_lt h7
  · rw [← h.arg8]; exact allReal_of_lt h8
  · rw [← h.arg9]; exact allReal_of_lt h9
  · rw [← h.arg10]; exact allReal_of_lt h10
  · rw [← h.arg11]; exact allReal_of_lt h11

end Cert.Proof.Inputs

end
-- ==== Proof.LogSoftmax.lean ====
/-
  The logarithm of a softmax, computed in two ways, over the extended reals.

  The reference takes the largest entry `M` off a row and then the logarithm of the sum of exponentials off that. The
  kernel adds `M` back to that logarithm (when `M` is an infinity it takes zero in its place) and takes the
  result off the row once. The two agree on every row, infinite entries included.
-/
module

public import proofs.«01_k».proof.Proof.Reals

@[expose] public section

noncomputable section

open scoped BigOperators

namespace Cert.Proof.LogSoftmax

open Idealize.ShloMosaic Cert.Proof.Reals

theorem exp_nonneg (x : EReal) : 0 ≤ Ideal.exp x := by
  induction x with
  | bot => exact le_refl _
  | top => exact le_top
  | coe r => exact EReal.coe_nonneg.mpr (Real.exp_pos r).le

theorem sum_exp_nonneg {n : ℕ} (f : Fin n → EReal) : 0 ≤ ∑ k, Ideal.exp (f k) := Finset.sum_nonneg fun _ _ => exp_nonneg _

/-- An entry below infinity has a real exponential. -/
theorem isReal_exp {x : EReal} (hx : x ≠ ⊤) : IsReal (Ideal.exp x) := by
  induction x with
  | bot => exact isReal_zero
  | top => exact absurd rfl hx
  | coe r => exact isReal_coe _

/-- What the kernel takes off a row before the exponentials: its largest entry, or zero in an infinity's place. -/
def shift (M : EReal) : EReal := if M = ⊤ ∨ M = ⊥ then 0 else M

/-- The two forms agree on a row whose largest entry is `M`. -/
theorem agree {n : ℕ} (z : Fin n → EReal) (M : EReal) (hle : ∀ k, z k ≤ M) (hat : ∃ k, z k = M) (j : Fin n) :
    z j - (Ideal.log (∑ k, Ideal.exp (z k - shift M)) + shift M) = (z j - M) - Ideal.log (∑ k, Ideal.exp (z k - M)) := by
  obtain ⟨k₀, hk₀⟩ := hat
  induction M with
  | bot =>
    have hz : ∀ k, z k = ⊥ := fun k => le_bot_iff.mp (hle k)
    simp [hz, shift]
  | top =>
    have h1 : ∑ k, Ideal.exp (z k - shift ⊤) = ⊤ := by
      refine le_antisymm le_top ?_
      have h := Finset.single_le_sum (f := fun k => Ideal.exp (z k - shift ⊤)) (fun k _ => exp_nonneg _) (Finset.mem_univ k₀)
      rw [hk₀] at h
      simpa [shift] using h
    rw [h1]
    simp [shift, EReal.sub_top]
  | coe m =>
    have hs : shift (m : EReal) = (m : EReal) := if_neg (by simp)
    rw [hs]
    have htop : ∀ k, z k ≠ ⊤ := fun k h => absurd (hle k) (by rw [h]; simp)
    have hreal : IsReal (∑ k, Ideal.exp (z k - (m : EReal))) := by
      refine IsReal.sum _ _ fun k _ => isReal_exp ?_
      have := htop k
      revert this
      induction z k with
      | bot => simp
      | top => simp
      | coe r => intro _; rw [← EReal.coe_sub]; exact EReal.coe_ne_top _
    have hone : (1 : EReal) ≤ ∑ k, Ideal.exp (z k - (m : EReal)) := by
      have h := Finset.single_le_sum (f := fun k => Ideal.exp (z k - (m : EReal))) (fun k _ => exp_nonneg _) (Finset.mem_univ k₀)
      rw [hk₀, ← EReal.coe_sub, sub_self, Ideal.exp_coe, Real.exp_zero] at h
      exact h
    obtain ⟨s, hs'⟩ := hreal
    rw [hs'] at hone ⊢
    have hs1 : (1 : ℝ) ≤ s := EReal.coe_le_coe_iff.mp hone
    rw [Ideal.log_coe, if_neg (by linarith)]
    have := htop j
    revert this
    induction z j with
    | bot => intro _; rw [← EReal.coe_add]; simp
    | top => simp
    | coe r => intro _; rw [← EReal.coe_add, ← EReal.coe_sub, ← EReal.coe_sub, ← EReal.coe_sub]; congr 1; ring

/-- The largest entry of a row, as a fold from minus infinity. -/
theorem le_fold {n : ℕ} (z : Fin n → EReal) (k : Fin n) : z k ≤ Finset.univ.fold max ⊥ z := by
  have h : Finset.univ.fold max ⊥ z = Finset.univ.sup z := rfl
  rw [h]
  exact Finset.le_sup (Finset.mem_univ k)

theorem fold_attained {n : ℕ} (z : Fin (n + 1) → EReal) : ∃ k, z k = Finset.univ.fold max ⊥ z := by
  have h : Finset.univ.fold max ⊥ z = Finset.univ.sup z := rfl
  rw [h]
  obtain ⟨k, _, hk⟩ := Finset.exists_mem_eq_sup Finset.univ ⟨0, Finset.mem_univ _⟩ z
  exact ⟨k, hk.symm⟩

/-- The two forms as the programs write them. -/
theorem forms {n : ℕ} (z : Fin (n + 1) → EReal) (j : Fin (n + 1)) :
    z j - (Ideal.log (max (∑ k, Ideal.exp (z k - shift (max ⊥ (Finset.univ.fold max ⊥ z))))
        (-∑ k, Ideal.exp (z k - shift (max ⊥ (Finset.univ.fold max ⊥ z))))) + shift (max ⊥ (Finset.univ.fold max ⊥ z)))
      = (z j - max ⊥ (Finset.univ.fold max ⊥ z)) - Ideal.log (∑ k, Ideal.exp (z k - max ⊥ (Finset.univ.fold max ⊥ z))) := by
  have habs : ∀ x : EReal, 0 ≤ x → max x (-x) = x := fun x hx =>
    max_eq_left (le_trans (EReal.neg_le_of_neg_le (by simpa using hx)) hx)
  rw [habs _ (sum_exp_nonneg _), max_eq_right bot_le]
  exact agree z _ (le_fold z) (fold_attained z) j

/-- The kernel's choice of what to take off, as it writes it. -/
theorem select_shift (M : EReal) :
    Scalar.select (IntOp.xori (FloatOps.weird (F := Ideal) (M : Ideal .f32)) 1#1) M 0 = shift M := by
  show Scalar.select (BitVec.ofBool (decide (M = ⊤ ∨ M = ⊥)) ^^^ 1#1) M 0 = shift M
  unfold shift Scalar.select
  by_cases h : M = ⊤ ∨ M = ⊥
  · rw [decide_eq_true h, if_pos h]; rfl
  · rw [decide_eq_false h, if_neg h]; rfl

end Cert.Proof.LogSoftmax

end
-- ==== Proof.Head.lean ====
/-
  The head: two linear layers and the logarithm of a softmax, on the means of the batches.

  The kernel's block and the reference compute the same hidden layer, the same logits, and by two forms the same
  logarithm of a softmax.
-/
module

public import proofs.«01_k».proof.Proof.Mean
public import proofs.«01_k».proof.Proof.LogSoftmax

@[expose] public section

set_option maxRecDepth 8192

noncomputable section

open scoped BigOperators

namespace Cert.Proof.Head

open Idealize.ShloMosaic Idealize.ShloMosaic.StableHlo
open Cert.Proof.Reals Cert.Proof.Mean Cert.Proof.LogSoftmax
open Cert.ReferenceIdeal.Value (res_main_v336 res_main_v341 res_main_call8_v5)

abbrev M25x10 : Shape := ⟨2, ![25, 10]⟩
abbrev M25x128 : Shape := ⟨2, ![25, 128]⟩

section
open Cert.KernelIdeal Cert.KernelIdeal.Gen

/-- The kernel's hidden layer, before its activation. -/
def hidden (m : FVec Ideal S25x64 .f32) (w : FVec Ideal S64x128 .f32) (b : FVec Ideal S1x128 .f32) : FVec Ideal S25x128 .f32 :=
  addf (matmul dot_S25x64_S64x128_S25x128_1_0_0_1_n_n none m w (constant S25x128 .f32 0x00000000#32))
    (broadcastTo S25x128 (shapeCast S1x128 b shapeCasts_S1x128_S1x128) broadcasts_S1x128_S25x128)

/-- The kernel's activation. -/
def active (z : FVec Ideal S25x128 .f32) : FVec Ideal S25x128 .f32 :=
  select (cmpf .ogt z (broadcast S25x128 (Scalar.ofBits .f32 0x00000000#32))) z
    (subf (exp z) (broadcast S25x128 (Scalar.ofBits .f32 0x3F800000#32)))

/-- The kernel's logits. -/
def logits (a : FVec Ideal S25x128 .f32) (w : FVec Ideal S128x10 .f32) (b : FVec Ideal S1x10 .f32) : FVec Ideal S25x10 .f32 :=
  addf (matmul dot_S25x128_S128x10_S25x10_1_0_0_1_n_n none a w (constant S25x10 .f32 0x00000000#32))
    (broadcastTo S25x10 (shapeCast S1x10 b shapeCasts_S1x10_S1x10) broadcasts_S1x10_S25x10)

theorem pay2_eq (x : FVec Ideal S25000x64 .f32) (w1 : FVec Ideal S64x128 .f32) (b1 : FVec Ideal S1x128 .f32)
    (w2 : FVec Ideal S128x10 .f32) (b2 : FVec Ideal S1x10 .f32) :
    k0_pay2 x w1 b1 w2 b2 = logits (active (hidden (blockMean x) w1 b1)) w2 b2 := rfl

end

variable {W : Valuation ReferenceIdeal.τ ReferenceIdeal.sig (Elt Ideal)}

section
open Cert.ReferenceIdeal Cert.ReferenceIdeal.Gen

/-- The reference's logits with the largest of each row taken off. -/
def centred (z : FVec Ideal S25x10 .f32) : FVec Ideal S25x10 .f32 :=
  subf z (broadcastInDim S25x10 ![0, 1] bcast_S25x1_S25x10_0_1 (broadcastInDim S25x1 ![0] bcast_S25_S25x1_0 (maximumf (broadcastInDim S25 ![] bcast_S_S25 (constant S_ .f32 0xFF800000#32)) (Host.reduce FloatOps.maximumf z (constant S_ .f32 0xFF800000#32) reducesTo_S25x10_S25_d1 h_S_))))

/-- The reference's result from its logits. -/
def final (z : FVec Ideal S25x10 .f32) : FVec Ideal S25x10 .f32 :=
  subf (centred z) (broadcastInDim S25x10 ![0, 1] bcast_S25x1_S25x10_0_1 (Host.log (broadcastInDim S25x1 ![0] bcast_S25_S25x1_0 (Host.reduceAdd (Host.exp (centred z)) (constant S_ .f32 0x00000000#32) reducesTo_S25x10_S25_d1 h_S_))))

end

/-- The kernel's block and the reference's result, from the same logits. -/
theorem block_eq (x : FVec Ideal KernelIdeal.S25000x64 .f32) (w1 : FVec Ideal KernelIdeal.S64x128 .f32) (b1 : FVec Ideal KernelIdeal.S1x128 .f32)
    (w2 : FVec Ideal KernelIdeal.S128x10 .f32) (b2 : FVec Ideal KernelIdeal.S1x10 .f32) (z : FVec Ideal M25x10 .f32)
    (hz : KernelIdeal.Gen.k0_pay2 (F := Ideal) x w1 b1 w2 b2 = z) :
    KernelIdeal.Gen.k0_pay1 (F := Ideal) (KernelIdeal.Gen.k0_pay2 x w1 b1 w2 b2) (KernelIdeal.Gen.k0_pay3 x w1 b1 w2 b2)
      (KernelIdeal.Gen.k0_pay4 x w1 b1 w2 b2) = final z := by
  funext j
  obtain ⟨r, c, rfl⟩ : ∃ (r : Fin 25) (c : Fin 10), j = ValueIdx.ix2 r c := ⟨j 0, j 1, ValueIdx.eq_ix2 j⟩
  unfold KernelIdeal.Gen.k0_pay1 KernelIdeal.Gen.k0_pay4 KernelIdeal.Gen.k0_pay3 final centred
  rw [hz, ← ix2_eq_valueIdx]
  pointwise
  rw [select_shift, bits_neg_inf]
  exact forms (fun k => z (ix2 r k)) c

/-- The hidden layers, before their activations. -/
theorem hidden_eq (h : Even W) (hx : AllReal (Host.pooled W)) :
   (open Cert.KernelIdeal Cert.KernelIdeal.Gen in
    hidden (blockMean (Host.pooled W)) (W (Proc.devRef .tc ReferenceIdeal.main_arg12)) (shapeCast S1x128 (W (Proc.devRef .tc ReferenceIdeal.main_arg13)) shapeCasts_S128_S1x128))
     = (res_main_v336 W : FVec Ideal M25x128 .f32) := by
  rw [← mean_eq h hx]
  change _ = (open Cert.ReferenceIdeal Cert.ReferenceIdeal.Gen in addf (Host.dotGeneral dot_S25x64_S64x128_S25x128_1_0_0_1_n_n none (tableMean W) (W (Proc.devRef .tc main_arg12))) (broadcastInDim S25x128 ![0, 1] bcast_S1x128_S25x128_0_1 (broadcastInDim S1x128 ![1] bcast_S128_S1x128_1 (W (Proc.devRef .tc main_arg13)))))
  generalize tableMean W = m
  unfold hidden
  funext j
  obtain ⟨b, c, rfl⟩ : ∃ (b : Fin 25) (c : Fin 128), j = ValueIdx.ix2 b c := ⟨j 0, j 1, ValueIdx.eq_ix2 j⟩
  rw [← ix2_eq_valueIdx]
  pointwise

/-- The hidden layers agree after their activations. -/
theorem active_eq (z : FVec Ideal M25x128 .f32) :
    active z = (open Cert.ReferenceIdeal Cert.ReferenceIdeal.Gen in select (cmpf .ogt z (broadcastInDim S25x128 ![] bcast_S_S25x128 (constant S_ .f32 0x00000000#32))) z (mulf (broadcastInDim S25x128 ![] bcast_S_S25x128 (constant S_ .f32 0x3F800000#32)) (Host.expm1 (select (cmpf .ogt z (broadcastInDim S25x128 ![] bcast_S_S25x128 (constant S_ .f32 0x00000000#32))) (broadcastInDim S25x128 ![] bcast_S_S25x128 (id (constant S_ .f32 0x00000000#32))) z)))) := by
  funext j
  obtain ⟨b, c, rfl⟩ : ∃ (b : Fin 25) (c : Fin 128), j = ValueIdx.ix2 b c := ⟨j 0, j 1, ValueIdx.eq_ix2 j⟩
  rw [← ix2_eq_valueIdx]
  unfold active
  pointwise
  split
  · rfl
  · rfl

/-- The logits agree. -/
theorem logits_eq (h : Even W) (hx : AllReal (Host.pooled W)) :
    (open Cert.KernelIdeal Cert.KernelIdeal.Gen in k0_pay2 (F := Ideal) (Host.pooled W) (W (Proc.devRef .tc ReferenceIdeal.main_arg12))
      (shapeCast S1x128 (W (Proc.devRef .tc ReferenceIdeal.main_arg13)) shapeCasts_S128_S1x128) (W (Proc.devRef .tc ReferenceIdeal.main_arg14))
      (shapeCast S1x10 (W (Proc.devRef .tc ReferenceIdeal.main_arg15)) shapeCasts_S10_S1x10)) = (res_main_v341 W : FVec Ideal M25x10 .f32) := by
  rw [pay2_eq, hidden_eq h hx, active_eq]
  unfold res_main_v341
  generalize (open Cert.ReferenceIdeal Cert.ReferenceIdeal.Gen in select (cmpf .ogt (res_main_v336 W) (broadcastInDim S25x128 ![] bcast_S_S25x128 (constant S_ .f32 0x00000000#32))) (res_main_v336 W : FVec Ideal M25x128 .f32) (mulf (broadcastInDim S25x128 ![] bcast_S_S25x128 (constant S_ .f32 0x3F800000#32)) (Host.expm1 (select (cmpf .ogt (res_main_v336 W) (broadcastInDim S25x128 ![] bcast_S_S25x128 (constant S_ .f32 0x00000000#32))) (broadcastInDim S25x128 ![] bcast_S_S25x128 (id (constant S_ .f32 0x00000000#32))) (res_main_v336 W))))) = a
  unfold logits
  funext j
  obtain ⟨b, c, rfl⟩ : ∃ (b : Fin 25) (c : Fin 10), j = ValueIdx.ix2 b c := ⟨j 0, j 1, ValueIdx.eq_ix2 j⟩
  rw [← ix2_eq_valueIdx]
  pointwise

end Cert.Proof.Head

end
-- ==== Proof.Block.lean ====
/-
  What the kernel's result array holds after the run.

  The kernel's one on-chip region has a single point, whose windows are whole arrays: the result array holds the
  block computed of the five operand arrays as the region finds them, and those are the pooled features, two weights
  and two biases that the reference reads too.
-/
module

public import proofs.«01_k».proof.Proof.Pooled
public import proofs.«01_k».proof.Proof.Gen.KernelIdeal.Value

@[expose] public section

set_option maxRecDepth 8192

noncomputable section

namespace Cert.Proof.Block

open Idealize.ShloMosaic Idealize.ShloMosaic.TcCoe Idealize.ShloMosaic.StableHlo Idealize.SL.Sem
open Cert.KernelIdeal Cert.KernelIdeal.Gen

/-- The region's one point. -/
abbrev t₀ : Fin cfg0.N := (0 : Fin 1)

/-- The block as one function of the five operands. -/
def block (x : FVec Ideal S25000x64 .f32) (w1 : FVec Ideal S64x128 .f32) (b1 : FVec Ideal S1x128 .f32)
    (w2 : FVec Ideal S128x10 .f32) (b2 : FVec Ideal S1x10 .f32) : FVec Ideal S25x10 .f32 :=
  k0_pay1 (k0_pay2 x w1 b1 w2 b2) (k0_pay3 x w1 b1 w2 b2) (k0_pay4 x w1 b1 w2 b2)

/-- The body's loads and its store go through whole buffers: its store is the block of what it loaded. -/
theorem out_eq (x : FVec Ideal S25000x64 .f32) (w1 : FVec Ideal S64x128 .f32) (b1 : FVec Ideal S1x128 .f32)
    (w2 : FVec Ideal S128x10 .f32) (b2 : FVec Ideal S1x10 .f32) : out0_5 (F := Ideal) x w1 b1 w2 b2 = block x w1 b1 w2 b2 := by
  have hz : (![0, 0] : Fin 2 → Nat) = fun _ => 0 := funext fun a => by fin_cases a <;> rfl
  unfold out0_5 block
  rw [View.canon_unit_zero (S := S25x10) hz, View.ld_unit_zero (S := S25000x64) hz, View.ld_unit_zero (S := S64x128) hz,
    View.ld_unit_zero (S := S1x128) hz, View.ld_unit_zero (S := S128x10) hz, View.ld_unit_zero (S := S1x10) hz]

/-! ## Each window reads its whole array -/

theorem read0 (f) : ((cfg0.win 0).blk t₀).view.read (Elt Ideal) f = f :=
  Memref.read_access_unit_zero (Elt Ideal) main_v303
    (show (fun a => (win0_0.index t₀) a * main_v303.ty.shape.size a) = fun _ => 0 from funext fun a => by fin_cases a <;> decide)
    (fun a => by fin_cases a <;> decide) f
theorem read1 (f) : ((cfg0.win 1).blk t₀).view.read (Elt Ideal) f = f :=
  Memref.read_access_unit_zero (Elt Ideal) main_arg12
    (show (fun a => (win0_1.index t₀) a * main_arg12.ty.shape.size a) = fun _ => 0 from funext fun a => by fin_cases a <;> decide)
    (fun a => by fin_cases a <;> decide) f
theorem read2 (f) : ((cfg0.win 2).blk t₀).view.read (Elt Ideal) f = f :=
  Memref.read_access_unit_zero (Elt Ideal) main_v304
    (show (fun a => (win0_2.index t₀) a * main_v304.ty.shape.size a) = fun _ => 0 from funext fun a => by fin_cases a <;> decide)
    (fun a => by fin_cases a <;> decide) f
theorem read3 (f) : ((cfg0.win 3).blk t₀).view.read (Elt Ideal) f = f :=
  Memref.read_access_unit_zero (Elt Ideal) main_arg14
    (show (fun a => (win0_3.index t₀) a * main_arg14.ty.shape.size a) = fun _ => 0 from funext fun a => by fin_cases a <;> decide)
    (fun a => by fin_cases a <;> decide) f
theorem read4 (f) : ((cfg0.win 4).blk t₀).view.read (Elt Ideal) f = f :=
  Memref.read_access_unit_zero (Elt Ideal) main_v305
    (show (fun a => (win0_4.index t₀) a * main_v305.ty.shape.size a) = fun _ => 0 from funext fun a => by fin_cases a <;> decide)
    (fun a => by fin_cases a <;> decide) f
theorem read5 (f) : ((cfg0.win 5).blk t₀).view.read (Elt Ideal) f = f :=
  Memref.read_access_unit_zero (Elt Ideal) main_v306
    (show (fun a => (win0_5.index t₀) a * main_v306.ty.shape.size a) = fun _ => 0 from funext fun a => by fin_cases a <;> decide)
    (fun a => by fin_cases a <;> decide) f

variable (m : (ℓ : Loc nD τ sig) → Buf (Elt Ideal) ℓ)

theorem iblk0 (c : Dev nD) : iblk m c 0 t₀ = V m c main_v303 := read0 _
theorem iblk1 (c : Dev nD) : iblk m c 1 t₀ = V m c main_arg12 := read1 _
theorem iblk2 (c : Dev nD) : iblk m c 2 t₀ = V m c main_v304 := read2 _
theorem iblk3 (c : Dev nD) : iblk m c 3 t₀ = V m c main_arg14 := read3 _
theorem iblk4 (c : Dev nD) : iblk m c 4 t₀ = V m c main_v305 := read4 _

/-- The result array after the run is the block of the operand arrays as the region finds them. -/
theorem array_eq (c : Dev nD) :
    (dats m 0 c).arrAt 5 cfg0.N = block (V m c main_v303) (V m c main_arg12) (V m c main_v304) (V m c main_arg14) (V m c main_v305) := by
  have h := Value.blocks5 m c t₀ (flush0_5 t₀)
  rw [read5, Value.flushed5, iblk0, iblk1, iblk2, iblk3, iblk4, out_eq] at h
  exact h

/-- The host operations before the region are those the reading lemmas speak of. -/
theorem region_entry (c : Dev nD) (b : Ref sig .tc) :
    V m c b = upto Host.pre (fun b => m (c, b)) 426 (Proc.devRef .tc b) := by
  unfold upto
  rw [List.take_of_length_le (show Host.pre.length ≤ 426 by decide)]
  rfl

variable {W : Valuation ReferenceIdeal.τ ReferenceIdeal.sig (Elt Ideal)}

/-- The result array after the run, of a launch whose arguments are `W`'s. -/
theorem result_eq (c : Dev nD) (h : Host.Agree (fun b => m (c, b)) W) :
    (dats m 0 c).arrAt 5 cfg0.N = block (Host.pooled W) (W (Proc.devRef .tc ReferenceIdeal.main_arg12))
      (shapeCast S1x128 (W (Proc.devRef .tc ReferenceIdeal.main_arg13)) shapeCasts_S128_S1x128) (W (Proc.devRef .tc ReferenceIdeal.main_arg14))
      (shapeCast S1x10 (W (Proc.devRef .tc ReferenceIdeal.main_arg15)) shapeCasts_S10_S1x10) := by
  rw [array_eq, region_entry m c main_v303, region_entry m c main_v304, region_entry m c main_v305, V_main_arg12, V_main_arg14,
    Host.host_v303 h (by norm_num), Host.host_v304 h (by norm_num), Host.host_v305 h (by norm_num)]
  rw [show m ((c : Thread nD τ).loc main_arg12) = W (Proc.devRef .tc ReferenceIdeal.main_arg12) from h.arg12,
    show m ((c : Thread nD τ).loc main_arg14) = W (Proc.devRef .tc ReferenceIdeal.main_arg14) from h.arg14]

end Cert.Proof.Block

end
-- ==== Proof.lean ====
/-
  The certificate of the kernel: each conjunct of `Cert.Claim` from the run of the program it speaks of.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Inputs
public import proofs.«01_k».proof.Proof.Head
public import proofs.«01_k».proof.Proof.Block
public import Idealize.ShloMosaic.Adequacy
public import Idealize.ShloMosaic.Init

@[expose] public section

noncomputable section

namespace Cert.Proof

open Idealize.ShloMosaic Idealize.ShloMosaic.StableHlo Idealize.SL.Sem

/-- The kernel runs to completion, leaves its arguments as they were and every semaphore at zero. -/
theorem frame_kernel : Cert.quiescent_Kernel (hKernel := Cert.Kernel.Gen.facts) :=
  fun m ρ _ => Cert.Kernel.Gen.frame m ρ

/-- The same of the kernel read over the reals. -/
theorem frame_kernelIdeal : Cert.quiescent_KernelIdeal (hKernelIdeal := Cert.KernelIdeal.Gen.facts) :=
  fun m ρ _ => Cert.KernelIdeal.Gen.frame m ρ

/-- The same of the reference. -/
theorem frame_referenceIdeal : Cert.quiescent_ReferenceIdeal (hReferenceIdeal := Cert.ReferenceIdeal.Gen.facts) := by
  intro m ρ _
  exact (θ_run Cert.ReferenceIdeal.defs _ _).mono (fun r h => ⟨fun c => (h c).2,
      sem_eq_zero_of_no_sems (by decide) r.2⟩) (Cert.ReferenceIdeal.Value.run m ρ)

section
variable {m : (ℓ : Loc KernelIdeal.nD KernelIdeal.τ KernelIdeal.sig) → Buf (Elt Ideal) ℓ}
  {W : Valuation ReferenceIdeal.τ ReferenceIdeal.sig (Elt Ideal)}

/-- The array the kernel's launch leaves is the reference's result. -/
theorem value_eq (hm : Pre_KernelIdeal_equal_batches_finite_features (hPre_equal_batches_finite_features := Inputs.facts) m)
    (c : Dev KernelIdeal.nD) (h : Host.Agree (fun b => m (c, b)) W) :
    (KernelIdeal.Gen.dats m 0 c).arrAt 5 KernelIdeal.cfg0.N = Head.final (ReferenceIdeal.Value.res_main_v341 W) :=
  (Block.result_eq m c h).trans (Head.block_eq _ _ _ _ _ _
    (Head.logits_eq (Inputs.even c hm h) (Finite.real_pooled (Inputs.realArgs c hm h))))

end

/-- Over the reals the kernel and the reference end with the same result, and both with the arguments they were given. -/
theorem algebraic : Cert.algebraic_KernelIdeal_ReferenceIdeal_pre_equal_batches_finite_features
    (hKernelIdeal := Cert.KernelIdeal.Gen.facts) (hReferenceIdeal := Cert.ReferenceIdeal.Gen.facts)
    (hPre_equal_batches_finite_features := Inputs.facts) := by
  intro m g m' g' hm hargs
  refine ⟨fun c => Head.final (ReferenceIdeal.Value.res_main_v341 (launchContents m' c)), ?_, ?_⟩
  · refine (θ_run Cert.KernelIdeal.defs _ _).mono (fun r h c => ⟨(h c).1.trans (value_eq hm c ?_), (h c).2⟩)
      (Cert.KernelIdeal.Value.run_blocks m g)
    obtain ⟨h0, h1, h2, h3, h4, h5, h6, h7, h8, h9, h10, h11, h12, h13, h14, h15⟩ := hargs c
    exact ⟨h0.symm, h1.symm, h2.symm, h3.symm, h4.symm, h5.symm, h6.symm, h7.symm, h8.symm, h9.symm, h10.symm, h11.symm,
      h12.symm, h13.symm, h14.symm, h15.symm⟩
  · exact Cert.ReferenceIdeal.Value.run m' g'

theorem claim : Cert.Claim := ⟨Cert.Kernel.Gen.facts, Cert.KernelIdeal.Gen.facts, Cert.ReferenceIdeal.Gen.facts, Inputs.facts,
  frame_kernel, frame_kernelIdeal, fun m ρ _ => Cert.KernelIdeal.Gen.frame m ρ, frame_referenceIdeal,
  fun m ρ _ => frame_referenceIdeal m ρ True.intro, trivial, algebraic⟩

end Cert.Proof

end
